-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S8x4096x22528 : Shape := ⟨3, ![8, 4096, 22528]⟩
abbrev S8x16x4096 : Shape := ⟨3, ![8, 16, 4096]⟩
abbrev S8x4096x4096 : Shape := ⟨3, ![8, 4096, 4096]⟩
abbrev S_ : Shape := ⟨0, ![]⟩

class Facts : Prop where
  slices_S8x4096x22528_S8x4096x4096_0_0_6144 : S8x4096x22528.Slices ![0, 0, 6144] S8x4096x4096
  bcast_S_S8x4096x4096 : S_.BroadcastsInDim S8x4096x4096 (![] : Fin 0 → Fin S8x4096x4096.rank)
  bcast_S_S8x16x4096 : S_.BroadcastsInDim S8x16x4096 (![] : Fin 0 → Fin S8x16x4096.rank)

variable [Facts]

def fn {F : FTy → Type} [FloatOps F] (main_arg0 : FVec F S8x4096x22528 .f32) (main_arg1 : FVec F S8x16x4096 .f32) : IVec S8x4096x4096 1 × IVec S8x16x4096 1 :=
  let main_v0 : FVec F S8x4096x4096 .f32 := (extractStridedSlice S8x4096x4096 ![0, 0, 6144] · slices_S8x4096x22528_S8x4096x4096_0_0_6144) main_arg0
  let main_v1 : FVec F S8x4096x4096 .f32 := Host.absf main_v0
  let main_cst : FVec F S_ .f32 := constant S_ .f32 0x7F800000#32
  let main_v2 : FVec F S8x4096x4096 .f32 := broadcastInDim S8x4096x4096 ![] bcast_S_S8x4096x4096 main_cst
  let main_v3 : IVec S8x4096x4096 1 := cmpf .olt main_v1 main_v2
  let main_v4 : FVec F S8x16x4096 .f32 := Host.absf main_arg1
  let main_cst_0 : FVec F S_ .f32 := constant S_ .f32 0x7F800000#32
  let main_v5 : FVec F S8x16x4096 .f32 := broadcastInDim S8x16x4096 ![] bcast_S_S8x16x4096 main_cst_0
  let main_v6 : IVec S8x16x4096 1 := cmpf .olt main_v4 main_v5
  (main_v3, main_v6)
-- ==== Kernel.lean ====
abbrev S8x4096x22528 : Shape := ⟨3, ![8, 4096, 22528]⟩
abbrev S8x16x4096 : Shape := ⟨3, ![8, 16, 4096]⟩
abbrev S8x16x1x4096 : Shape := ⟨4, ![8, 16, 1, 4096]⟩
abbrev S8x4096x2048 : Shape := ⟨3, ![8, 4096, 2048]⟩
abbrev S1x2048x128 : Shape := ⟨3, ![1, 2048, 128]⟩
abbrev S1x4096x128 : Shape := ⟨3, ![1, 4096, 128]⟩
abbrev S1x1x1x4096 : Shape := ⟨4, ![1, 1, 1, 4096]⟩
abbrev S1x128x4096 : Shape := ⟨3, ![1, 128, 4096]⟩
abbrev S1x4096x256 : Shape := ⟨3, ![1, 4096, 256]⟩
abbrev S1x2048x256 : Shape := ⟨3, ![1, 2048, 256]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S4096x128 : Shape := ⟨2, ![4096, 128]⟩
abbrev S2048x128 : Shape := ⟨2, ![2048, 128]⟩
abbrev S2048x512 : Shape := ⟨2, ![2048, 512]⟩
abbrev S1x1x1x512 : Shape := ⟨4, ![1, 1, 1, 512]⟩
abbrev S1x512 : Shape := ⟨2, ![1, 512]⟩
abbrev S2048 : Shape := ⟨1, ![2048]⟩
abbrev S2048x1 : Shape := ⟨2, ![2048, 1]⟩
abbrev S1x512x256 : Shape := ⟨3, ![1, 512, 256]⟩
abbrev S512x256 : Shape := ⟨2, ![512, 256]⟩
abbrev S2048x256 : Shape := ⟨2, ![2048, 256]⟩
abbrev S1x1536x128 : Shape := ⟨3, ![1, 1536, 128]⟩
abbrev S1536x128 : Shape := ⟨2, ![1536, 128]⟩
abbrev S1536x512 : Shape := ⟨2, ![1536, 512]⟩
abbrev S1536 : Shape := ⟨1, ![1536]⟩
abbrev S1536x1 : Shape := ⟨2, ![1536, 1]⟩
abbrev S1536x256 : Shape := ⟨2, ![1536, 256]⟩
abbrev S1x1536x256 : Shape := ⟨3, ![1, 1536, 256]⟩
abbrev S1x1024x128 : Shape := ⟨3, ![1, 1024, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1024x256 : Shape := ⟨2, ![1024, 256]⟩
abbrev S1x1024x256 : Shape := ⟨3, ![1, 1024, 256]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 15
  | .smem => 0
  | _ => 0

abbrev bufTy : (tb : Table) → Fin (tcTables nBuf tb) → BufTy
  | .hbm, ⟨0, _⟩ => ⟨S8x4096x22528, .f32⟩
  | .hbm, ⟨1, _⟩ => ⟨S8x16x4096, .f32⟩
  | .hbm, ⟨2, _⟩ => ⟨S8x16x4096, .f32⟩
  | .hbm, ⟨3, _⟩ => ⟨S8x16x1x4096, .f32⟩
  | .hbm, ⟨4, _⟩ => ⟨S8x4096x2048, .bf16⟩
  | .local _ .vmem, ⟨0, _⟩ => ⟨S1x2048x128, .f32⟩
  | .local _ .vmem, ⟨1, _⟩ => ⟨S1x2048x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x1x1x4096, .f32⟩
  | .local _ .vmem, ⟨7, _⟩ => ⟨S1x1x1x4096, .f32⟩
  | .local _ .vmem, ⟨8, _⟩ => ⟨S1x2048x128, .bf16⟩
  | .local _ .vmem, ⟨9, _⟩ => ⟨S1x2048x128, .bf16⟩
  | .local _ .vmem, ⟨10, _⟩ => ⟨S1x128x4096, .bf16⟩
  | .local _ .vmem, ⟨11, _⟩ => ⟨S1x4096x256, .bf16⟩
  | .local _ .vmem, ⟨12, _⟩ => ⟨S1x2048x128, .bf16⟩
  | .local _ .vmem, ⟨13, _⟩ => ⟨S1x2048x128, .f32⟩
  | .local _ .vmem, ⟨14, _⟩ => ⟨S1x2048x256, .f32⟩
  | _, _ => ⟨S8x4096x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 2], ![false, false, false]⟩

@[reducible] def k0_t1_loop (i : grid0.Coords) : Scf.Loop 32 :=
  let c0_i32_15 : BitVec 32 := 0#32
  let arg2 : BitVec 32 := BitVec.ofNat 32 (i 2).val
  let c4_i32 : BitVec 32 := 4#32
  let v19 : BitVec 32 := Scalar.muli arg2 c4_i32
  let v20 : BitVec 32 := Scalar.subi v19 c0_i32_15
  let c1_i32 : BitVec 32 := 1#32
  let v22 : BitVec 32 := Scalar.divsi v20 c1_i32
  let v23 : BitVec 32 := Scalar.muli v22 c1_i32
  let v24 : BitVec 32 := Scalar.addi c0_i32_15 v23
  let c1_i32_16 : BitVec 32 := 1#32
  ⟨c0_i32_15, v24, c1_i32_16⟩
def k0_mult1 (i : grid0.Coords) (k0_t1 : Fin (k0_t1_loop i).trips) : BitVec 32 :=
  let c0_i32_15 : BitVec 32 := 0#32
  let c1_i32_16 : BitVec 32 := 1#32
  let arg13 : BitVec 32 := Scf.iv c0_i32_15 c1_i32_16 k0_t1
  let c512_i32_136 : BitVec 32 := 512#32
  let v266 : BitVec 32 := Scalar.muli arg13 c512_i32_136
  v266
def k0_off1 (i : grid0.Coords) (k0_t1 : Fin (k0_t1_loop i).trips) : Fin 3 → Nat :=
  let c0_140 : Index := 0#32
  let c0_141 : Index := 0#32
  let c0_i32_15 : BitVec 32 := 0#32
  let c1_i32_16 : BitVec 32 := 1#32
  let arg13 : BitVec 32 := Scf.iv c0_i32_15 c1_i32_16 k0_t1
  let c512_i32_136 : BitVec 32 := 512#32
  let v266 : BitVec 32 := Scalar.muli arg13 c512_i32_136
  let v267 : BitVec 32 := v266
  let v270 : Index := Scalar.indexCast v267
  ![0, 0, v270.toNat]
def k0_off2 (i : grid0.Coords) (k0_t1 : Fin (k0_t1_loop i).trips) : Fin 4 → Nat :=
  let c0_143 : Index := 0#32
  let c0_144 : Index := 0#32
  let c0_145 : Index := 0#32
  let c0_i32_15 : BitVec 32 := 0#32
  let c1_i32_16 : BitVec 32 := 1#32
  let arg13 : BitVec 32 := Scf.iv c0_i32_15 c1_i32_16 k0_t1
  let c512_i32_136 : BitVec 32 := 512#32
  let v266 : BitVec 32 := Scalar.muli arg13 c512_i32_136
  let v267 : BitVec 32 := v266
  let v274 : Index := Scalar.indexCast v267
  ![0, 0, 0, v274.toNat]
def k0_off3 (i : grid0.Coords) (k0_t1 : Fin (k0_t1_loop i).trips) : Fin 3 → Nat :=
  let c0_151 : Index := 0#32
  let c0_i32_15 : BitVec 32 := 0#32
  let c1_i32_16 : BitVec 32 := 1#32
  let arg13 : BitVec 32 := Scf.iv c0_i32_15 c1_i32_16 k0_t1
  let c512_i32_136 : BitVec 32 := 512#32
  let v266 : BitVec 32 := Scalar.muli arg13 c512_i32_136
  let v267 : BitVec 32 := v266
  let v303 : Index := Scalar.indexCast v267
  let c0_152 : Index := 0#32
  ![0, v303.toNat, 0]
@[reducible] def k0_t2_loop (i : grid0.Coords) : Scf.Loop 32 :=
  let c0_i32_15 : BitVec 32 := 0#32
  let arg2 : BitVec 32 := BitVec.ofNat 32 (i 2).val
  let c4_i32 : BitVec 32 := 4#32
  let v19 : BitVec 32 := Scalar.muli arg2 c4_i32
  let v20 : BitVec 32 := Scalar.subi v19 c0_i32_15
  let c1_i32 : BitVec 32 := 1#32
  let v22 : BitVec 32 := Scalar.divsi v20 c1_i32
  let v23 : BitVec 32 := Scalar.muli v22 c1_i32
  let v24 : BitVec 32 := Scalar.addi c0_i32_15 v23
  let v21 : BitVec 32 := Scalar.addi c0_i32_15 v20
  let c1_i32_17 : BitVec 32 := 1#32
  ⟨v24, v21, c1_i32_17⟩
def k0_mult2 (i : grid0.Coords) (k0_t2 : Fin (k0_t2_loop i).trips) : BitVec 32 :=
  let c0_i32_15 : BitVec 32 := 0#32
  let arg2 : BitVec 32 := BitVec.ofNat 32 (i 2).val
  let c4_i32 : BitVec 32 := 4#32
  let v19 : BitVec 32 := Scalar.muli arg2 c4_i32
  let v20 : BitVec 32 := Scalar.subi v19 c0_i32_15
  let c1_i32 : BitVec 32 := 1#32
  let v22 : BitVec 32 := Scalar.divsi v20 c1_i32
  let v23 : BitVec 32 := Scalar.muli v22 c1_i32
  let v24 : BitVec 32 := Scalar.addi c0_i32_15 v23
  let c1_i32_17 : BitVec 32 := 1#32
  let arg13 : BitVec 32 := Scf.iv v24 c1_i32_17 k0_t2
  let c512_i32_136 : BitVec 32 := 512#32
  let v266 : BitVec 32 := Scalar.muli arg13 c512_i32_136
  v266
def k0_off4 (i : grid0.Coords) (k0_t2 : Fin (k0_t2_loop i).trips) : Fin 3 → Nat :=
  let c0_140 : Index := 0#32
  let c0_141 : Index := 0#32
  let c0_i32_15 : BitVec 32 := 0#32
  let arg2 : BitVec 32 := BitVec.ofNat 32 (i 2).val
  let c4_i32 : BitVec 32 := 4#32
  let v19 : BitVec 32 := Scalar.muli arg2 c4_i32
  let v20 : BitVec 32 := Scalar.subi v19 c0_i32_15
  let c1_i32 : BitVec 32 := 1#32
  let v22 : BitVec 32 := Scalar.divsi v20 c1_i32
  let v23 : BitVec 32 := Scalar.muli v22 c1_i32
  let v24 : BitVec 32 := Scalar.addi c0_i32_15 v23
  let c1_i32_17 : BitVec 32 := 1#32
  let arg13 : BitVec 32 := Scf.iv v24 c1_i32_17 k0_t2
  let c512_i32_136 : BitVec 32 := 512#32
  let v266 : BitVec 32 := Scalar.muli arg13 c512_i32_136
  let v267 : BitVec 32 := v266
  let v270 : Index := Scalar.indexCast v267
  ![0, 0, v270.toNat]
def k0_off5 (i : grid0.Coords) (k0_t2 : Fin (k0_t2_loop i).trips) : Fin 4 → Nat :=
  let c0_143 : Index := 0#32
  let c0_144 : Index := 0#32
  let c0_145 : Index := 0#32
  let c0_i32_15 : BitVec 32 := 0#32
  let arg2 : BitVec 32 := BitVec.ofNat 32 (i 2).val
  let c4_i32 : BitVec 32 := 4#32
  let v19 : BitVec 32 := Scalar.muli arg2 c4_i32
  let v20 : BitVec 32 := Scalar.subi v19 c0_i32_15
  let c1_i32 : BitVec 32 := 1#32
  let v22 : BitVec 32 := Scalar.divsi v20 c1_i32
  let v23 : BitVec 32 := Scalar.muli v22 c1_i32
  let v24 : BitVec 32 := Scalar.addi c0_i32_15 v23
  let c1_i32_17 : BitVec 32 := 1#32
  let arg13 : BitVec 32 := Scf.iv v24 c1_i32_17 k0_t2
  let c512_i32_136 : BitVec 32 := 512#32
  let v266 : BitVec 32 := Scalar.muli arg13 c512_i32_136
  let v267 : BitVec 32 := v266
  let v274 : Index := Scalar.indexCast v267
  ![0, 0, 0, v274.toNat]
def k0_off6 (i : grid0.Coords) (k0_t2 : Fin (k0_t2_loop i).trips) : Fin 3 → Nat :=
  let c0_151 : Index := 0#32
  let c0_i32_15 : BitVec 32 := 0#32
  let arg2 : BitVec 32 := BitVec.ofNat 32 (i 2).val
  let c4_i32 : BitVec 32 := 4#32
  let v19 : BitVec 32 := Scalar.muli arg2 c4_i32
  let v20 : BitVec 32 := Scalar.subi v19 c0_i32_15
  let c1_i32 : BitVec 32 := 1#32
  let v22 : BitVec 32 := Scalar.divsi v20 c1_i32
  let v23 : BitVec 32 := Scalar.muli v22 c1_i32
  let v24 : BitVec 32 := Scalar.addi c0_i32_15 v23
  let c1_i32_17 : BitVec 32 := 1#32
  let arg13 : BitVec 32 := Scf.iv v24 c1_i32_17 k0_t2
  let c512_i32_136 : BitVec 32 := 512#32
  let v266 : BitVec 32 := Scalar.muli arg13 c512_i32_136
  let v267 : BitVec 32 := v266
  let v303 : Index := Scalar.indexCast v267
  let c0_152 : Index := 0#32
  ![0, v303.toNat, 0]
def k0_mult3 (i : grid0.Coords) : BitVec 32 :=
  let arg2 : BitVec 32 := BitVec.ofNat 32 (i 2).val
  let c4_i32 : BitVec 32 := 4#32
  let v19 : BitVec 32 := Scalar.muli arg2 c4_i32
  let c0_i32_18 : BitVec 32 := 0#32
  let v25 : BitVec 32 := Scalar.addi v19 c0_i32_18
  let c512_i32 : BitVec 32 := 512#32
  let v26 : BitVec 32 := Scalar.muli v25 c512_i32
  v26
def k0_off7 (i : grid0.Coords) (c0_i32_18 : BitVec 32) : Fin 3 → Nat :=
  let c0_22 : Index := 0#32
  let c0_23 : Index := 0#32
  let arg2 : BitVec 32 := BitVec.ofNat 32 (i 2).val
  let c4_i32 : BitVec 32 := 4#32
  let v19 : BitVec 32 := Scalar.muli arg2 c4_i32
  let v25 : BitVec 32 := Scalar.addi v19 c0_i32_18
  let c512_i32 : BitVec 32 := 512#32
  let v26 : BitVec 32 := Scalar.muli v25 c512_i32
  let v27 : BitVec 32 := v26
  let v30 : Index := Scalar.indexCast v27
  ![0, 0, v30.toNat]
def k0_off8 (i : grid0.Coords) (c0_i32_18 : BitVec 32) : Fin 4 → Nat :=
  let c0_25 : Index := 0#32
  let c0_26 : Index := 0#32
  let c0_27 : Index := 0#32
  let arg2 : BitVec 32 := BitVec.ofNat 32 (i 2).val
  let c4_i32 : BitVec 32 := 4#32
  let v19 : BitVec 32 := Scalar.muli arg2 c4_i32
  let v25 : BitVec 32 := Scalar.addi v19 c0_i32_18
  let c512_i32 : BitVec 32 := 512#32
  let v26 : BitVec 32 := Scalar.muli v25 c512_i32
  let v27 : BitVec 32 := v26
  let v34 : Index := Scalar.indexCast v27
  ![0, 0, 0, v34.toNat]
def k0_off9 (i : grid0.Coords) (c0_i32_18 : BitVec 32) : Fin 3 → Nat :=
  let c0_34 : Index := 0#32
  let arg2 : BitVec 32 := BitVec.ofNat 32 (i 2).val
  let c4_i32 : BitVec 32 := 4#32
  let v19 : BitVec 32 := Scalar.muli arg2 c4_i32
  let v25 : BitVec 32 := Scalar.addi v19 c0_i32_18
  let c512_i32 : BitVec 32 := 512#32
  let v26 : BitVec 32 := Scalar.muli v25 c512_i32
  let v27 : BitVec 32 := v26
  let v68 : Index := Scalar.indexCast v27
  let c0_35 : Index := 0#32
  ![0, v68.toNat, 0]
def k0_mult4 (i : grid0.Coords) : BitVec 32 :=
  let arg2 : BitVec 32 := BitVec.ofNat 32 (i 2).val
  let c4_i32 : BitVec 32 := 4#32
  let v19 : BitVec 32 := Scalar.muli arg2 c4_i32
  let c1_i32_46 : BitVec 32 := 1#32
  let v83 : BitVec 32 := Scalar.addi v19 c1_i32_46
  let c512_i32_47 : BitVec 32 := 512#32
  let v84 : BitVec 32 := Scalar.muli v83 c512_i32_47
  v84
def k0_mult5 (i : grid0.Coords) : BitVec 32 :=
  let arg2 : BitVec 32 := BitVec.ofNat 32 (i 2).val
  let c4_i32 : BitVec 32 := 4#32
  let v19 : BitVec 32 := Scalar.muli arg2 c4_i32
  let c2_i32 : BitVec 32 := 2#32
  let v141 : BitVec 32 := Scalar.addi v19 c2_i32
  let c512_i32_74 : BitVec 32 := 512#32
  let v142 : BitVec 32 := Scalar.muli v141 c512_i32_74
  v142
def k0_mult6 (i : grid0.Coords) : BitVec 32 :=
  let arg2 : BitVec 32 := BitVec.ofNat 32 (i 2).val
  let c4_i32 : BitVec 32 := 4#32
  let v19 : BitVec 32 := Scalar.muli arg2 c4_i32
  let c3_i32 : BitVec 32 := 3#32
  let v199 : BitVec 32 := Scalar.addi v19 c3_i32
  let c512_i32_101 : BitVec 32 := 512#32
  let v200 : BitVec 32 := Scalar.muli v199 c512_i32_101
  v200
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((11863283 / 134217728) * (Real.log 2)⁻¹ : ℝ) : EReal)
  | _ => none
-- ==== ReferenceIdeal.lean ====
abbrev S8x4096x22528 : Shape := ⟨3, ![8, 4096, 22528]⟩
abbrev S8x16x4096 : Shape := ⟨3, ![8, 16, 4096]⟩
abbrev S8x4096x2048 : Shape := ⟨3, ![8, 4096, 2048]⟩
abbrev S8x4096x16x128 : Shape := ⟨4, ![8, 4096, 16, 128]⟩
abbrev S8x16x4096x4096 : Shape := ⟨4, ![8, 16, 4096, 4096]⟩
abbrev S_ : Shape := ⟨0, ![]⟩
abbrev S8x16x4096x1 : Shape := ⟨4, ![8, 16, 4096, 1]⟩
abbrev S8x16x1x4096 : Shape := ⟨4, ![8, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x16x128x4096 : Shape := ⟨4, ![8, 16, 128, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x22528, .f32⟩
  | .hbm, ⟨1, _⟩ => ⟨S8x16x4096, .f32⟩
  | .hbm, ⟨2, _⟩ => ⟨S8x4096x2048, .f32⟩
  | .hbm, ⟨3, _⟩ => ⟨S8x4096x16x128, .f32⟩
  | .hbm, ⟨4, _⟩ => ⟨S8x4096x2048, .f32⟩
  | .hbm, ⟨5, _⟩ => ⟨S8x4096x16x128, .f32⟩
  | .hbm, ⟨6, _⟩ => ⟨S8x4096x2048, .f32⟩
  | .hbm, ⟨7, _⟩ => ⟨S8x4096x16x128, .f32⟩
  | .hbm, ⟨8, _⟩ => ⟨S8x16x4096x4096, .f32⟩
  | .hbm, ⟨9, _⟩ => ⟨S_, .f32⟩
  | .hbm, ⟨10, _⟩ => ⟨S8x16x4096x4096, .f32⟩
  | .hbm, ⟨11, _⟩ => ⟨S8x16x4096x4096, .f32⟩
  | .hbm, ⟨12, _⟩ => ⟨S8x16x4096x1, .f32⟩
  | .hbm, ⟨13, _⟩ => ⟨S8x16x1x4096, .f32⟩
  | .hbm, ⟨14, _⟩ => ⟨S8x16x4096x4096, .f32⟩
  | .hbm, ⟨15, _⟩ => ⟨S8x16x4096x4096, .f32⟩
  | .hbm, ⟨16, _⟩ => ⟨S8x16x4096x4096, .f32⟩
  | .hbm, ⟨17, _⟩ => ⟨S8x16x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x16x4096x4096, .i1⟩
  | .hbm, ⟨28, _⟩ => ⟨S8x16x4096x4096, .f32⟩
  | .hbm, ⟨29, _⟩ => ⟨S8x16x4096x4096, .f32⟩
  | .hbm, ⟨30, _⟩ => ⟨S_, .f32⟩
  | .hbm, ⟨31, _⟩ => ⟨S8x16x4096, .f32⟩
  | .hbm, ⟨32, _⟩ => ⟨S_, .f32⟩
  | .hbm, ⟨33, _⟩ => ⟨S8x16x4096, .f32⟩
  | .hbm, ⟨34, _⟩ => ⟨S8x16x4096, .f32⟩
  | .hbm, ⟨35, _⟩ => ⟨S8x16x4096x1, .f32⟩
  | .hbm, ⟨36, _⟩ => ⟨S8x16x4096x4096, .f32⟩
  | .hbm, ⟨37, _⟩ => ⟨S8x16x4096x4096, .f32⟩
  | .hbm, ⟨38, _⟩ => ⟨S8x16x4096x4096, .f32⟩
  | .hbm, ⟨39, _⟩ => ⟨S_, .f32⟩
  | .hbm, ⟨40, _⟩ => ⟨S8x16x4096, .f32⟩
  | .hbm, ⟨41, _⟩ => ⟨S8x16x4096x1, .f32⟩
  | .hbm, ⟨42, _⟩ => ⟨S8x16x4096x4096, .f32⟩
  | .hbm, ⟨43, _⟩ => ⟨S8x16x4096x4096, .f32⟩
  | .hbm, ⟨44, _⟩ => ⟨S8x16x128x4096, .f32⟩
  | .hbm, ⟨45, _⟩ => ⟨S8x4096x16x128, .f32⟩
  | .hbm, ⟨46, _⟩ => ⟨S8x4096x2048, .f32⟩
  | .hbm, ⟨47, _⟩ => ⟨S8x4096x2048, .bf16⟩
  | _, _ => ⟨S8x4096x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel2.lean ====
abbrev S8x4096x2048 : Shape := ⟨3, ![8, 4096, 2048]⟩
abbrev S2048x22544 : Shape := ⟨2, ![2048, 22544]⟩
abbrev S22544 : Shape := ⟨1, ![22544]⟩
abbrev S2048x12288 : Shape := ⟨2, ![2048, 12288]⟩
abbrev S2048x10240 : Shape := ⟨2, ![2048, 10240]⟩
abbrev S2048x22528 : Shape := ⟨2, ![2048, 22528]⟩
abbrev S12288 : Shape := ⟨1, ![12288]⟩
abbrev S10240 : Shape := ⟨1, ![10240]⟩
abbrev S22528 : Shape := ⟨1, ![22528]⟩
abbrev S2048x16 : Shape := ⟨2, ![2048, 16]⟩
abbrev S_ : Shape := ⟨0, ![]⟩
abbrev S2048x128 : Shape := ⟨2, ![2048, 128]⟩
abbrev S16 : Shape := ⟨1, ![16]⟩
abbrev S128 : Shape := ⟨1, ![128]⟩
abbrev S1x22528 : Shape := ⟨2, ![1, 22528]⟩
abbrev S1x128 : Shape := ⟨2, ![1, 128]⟩
abbrev S32768x2048 : Shape := ⟨2, ![32768, 2048]⟩
abbrev S32768x22528 : Shape := ⟨2, ![32768, 22528]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 24
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048x22544, .f32⟩
  | .hbm, ⟨2, _⟩ => ⟨S22544, .f32⟩
  | .hbm, ⟨3, _⟩ => ⟨S2048x12288, .f32⟩
  | .hbm, ⟨4, _⟩ => ⟨S2048x10240, .f32⟩
  | .hbm, ⟨5, _⟩ => ⟨S2048x22528, .f32⟩
  | .hbm, ⟨6, _⟩ => ⟨S2048x22528, .bf16⟩
  | .hbm, ⟨7, _⟩ => ⟨S12288, .f32⟩
  | .hbm, ⟨8, _⟩ => ⟨S10240, .f32⟩
  | .hbm, ⟨9, _⟩ => ⟨S22528, .f32⟩
  | .hbm, ⟨10, _⟩ => ⟨S2048x16, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S16, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x22528, .f32⟩
  | .hbm, ⟨20, _⟩ => ⟨S1x128, .f32⟩
  | .hbm, ⟨21, _⟩ => ⟨S32768x2048, .f32⟩
  | .hbm, ⟨22, _⟩ => ⟨S32768x2048, .bf16⟩
  | .hbm, ⟨23, _⟩ => ⟨S32768x22528, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x4096x2048 : Shape := ⟨3, ![8, 4096, 2048]⟩
abbrev S2048x22544 : Shape := ⟨2, ![2048, 22544]⟩
abbrev S22544 : Shape := ⟨1, ![22544]⟩
abbrev S8x4096x22544 : Shape := ⟨3, ![8, 4096, 22544]⟩
abbrev S1x1x22544 : Shape := ⟨3, ![1, 1, 22544]⟩
abbrev S8x4096x12288 : Shape := ⟨3, ![8, 4096, 12288]⟩
abbrev S8x4096x10240 : Shape := ⟨3, ![8, 4096, 10240]⟩
abbrev S8x4096x22528 : Shape := ⟨3, ![8, 4096, 22528]⟩
abbrev S32768x22528 : Shape := ⟨2, ![32768, 22528]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x22544, .f32⟩
  | .hbm, ⟨2, _⟩ => ⟨S22544, .f32⟩
  | .hbm, ⟨3, _⟩ => ⟨S8x4096x22544, .f32⟩
  | .hbm, ⟨4, _⟩ => ⟨S1x1x22544, .f32⟩
  | .hbm, ⟨5, _⟩ => ⟨S8x4096x22544, .f32⟩
  | .hbm, ⟨6, _⟩ => ⟨S8x4096x22544, .f32⟩
  | .hbm, ⟨7, _⟩ => ⟨S8x4096x12288, .f32⟩
  | .hbm, ⟨8, _⟩ => ⟨S8x4096x10240, .f32⟩
  | .hbm, ⟨9, _⟩ => ⟨S8x4096x22528, .f32⟩
  | .hbm, ⟨10, _⟩ => ⟨S32768x22528, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S32768x2048 : Shape := ⟨2, ![32768, 2048]⟩
abbrev S2048x2048 : Shape := ⟨2, ![2048, 2048]⟩
abbrev S32768x22528 : Shape := ⟨2, ![32768, 22528]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 11
  | .vmem => 20
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S32768x22528, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .bf16⟩
  | .local _ .vmem, ⟨19, _⟩ => ⟨S1024x256, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S32768x2048 : Shape := ⟨2, ![32768, 2048]⟩
abbrev S2048x2048 : Shape := ⟨2, ![2048, 2048]⟩
abbrev S32768x22528 : Shape := ⟨2, ![32768, 22528]⟩
abbrev S32768x6144 : Shape := ⟨2, ![32768, 6144]⟩
abbrev S32768x3x2048 : Shape := ⟨3, ![32768, 3, 2048]⟩
abbrev S_ : Shape := ⟨0, ![]⟩
abbrev S32768x1x2048 : Shape := ⟨3, ![32768, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S32768x22528, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x6144, .f32⟩
  | .hbm, ⟨11, _⟩ => ⟨S32768x3x2048, .f32⟩
  | .hbm, ⟨12, _⟩ => ⟨S32768x3x2048, .f32⟩
  | .hbm, ⟨13, _⟩ => ⟨S32768x3x2048, .f32⟩
  | .hbm, ⟨14, _⟩ => ⟨S_, .f32⟩
  | .hbm, ⟨15, _⟩ => ⟨S32768x3x2048, .f32⟩
  | .hbm, ⟨16, _⟩ => ⟨S32768x3x2048, .f32⟩
  | .hbm, ⟨17, _⟩ => ⟨S_, .f32⟩
  | .hbm, ⟨18, _⟩ => ⟨S32768x3x2048, .f32⟩
  | .hbm, ⟨19, _⟩ => ⟨S32768x3x2048, .f32⟩
  | .hbm, ⟨20, _⟩ => ⟨S32768x1x2048, .f32⟩
  | .hbm, ⟨21, _⟩ => ⟨S32768x2048, .f32⟩
  | .hbm, ⟨22, _⟩ => ⟨S32768x2048, .f32⟩
  | .hbm, ⟨23, _⟩ => ⟨S32768x1x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x1x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S32768x2048, .f32⟩
  | .hbm, ⟨9, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel6.lean ====
abbrev S32768x2048 : Shape := ⟨2, ![32768, 2048]⟩
abbrev S6x32768x1024 : Shape := ⟨3, ![6, 32768, 1024]⟩
abbrev S32768x8 : Shape := ⟨2, ![32768, 8]⟩
abbrev S2048x256 : Shape := ⟨2, ![2048, 256]⟩
abbrev S256x2048 : Shape := ⟨2, ![256, 2048]⟩
abbrev S2048 : Shape := ⟨1, ![2048]⟩
abbrev S2048x512 : Shape := ⟨2, ![2048, 512]⟩
abbrev S1x2048 : Shape := ⟨2, ![1, 2048]⟩
abbrev S6x256x1024 : Shape := ⟨3, ![6, 256, 1024]⟩
abbrev S256x8 : Shape := ⟨2, ![256, 8]⟩
abbrev S256x512 : Shape := ⟨2, ![256, 512]⟩
abbrev S256x256 : Shape := ⟨2, ![256, 256]⟩
abbrev S1x256x1024 : Shape := ⟨3, ![1, 256, 1024]⟩
abbrev S256x1024 : Shape := ⟨2, ![256, 1024]⟩
abbrev S256x1 : Shape := ⟨2, ![256, 1]⟩
abbrev S256 : Shape := ⟨1, ![256]⟩

abbrev nBuf : Space → Nat
  | .hbm => 15
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S6x32768x1024, .i32⟩
  | .hbm, ⟨2, _⟩ => ⟨S32768x8, .f32⟩
  | .hbm, ⟨3, _⟩ => ⟨S2048x256, .f32⟩
  | .hbm, ⟨4, _⟩ => ⟨S2048x256, .f32⟩
  | .hbm, ⟨5, _⟩ => ⟨S256x2048, .f32⟩
  | .hbm, ⟨6, _⟩ => ⟨S2048, .f32⟩
  | .hbm, ⟨7, _⟩ => ⟨S2048, .f32⟩
  | .hbm, ⟨8, _⟩ => ⟨S2048x512, .f32⟩
  | .hbm, ⟨9, _⟩ => ⟨S2048x512, .bf16⟩
  | .hbm, ⟨10, _⟩ => ⟨S256x2048, .bf16⟩
  | .hbm, ⟨11, _⟩ => ⟨S1x2048, .f32⟩
  | .hbm, ⟨12, _⟩ => ⟨S1x2048, .f32⟩
  | .hbm, ⟨13, _⟩ => ⟨S32768x2048, .f32⟩
  | .hbm, ⟨14, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S6x256x1024, .i32⟩
  | .local _ .vmem, ⟨3, _⟩ => ⟨S6x256x1024, .i32⟩
  | .local _ .vmem, ⟨4, _⟩ => ⟨S256x8, .f32⟩
  | .local _ .vmem, ⟨5, _⟩ => ⟨S256x8, .f32⟩
  | .local _ .vmem, ⟨6, _⟩ => ⟨S2048x512, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S32768x2048 : Shape := ⟨2, ![32768, 2048]⟩
abbrev S6x32768x1024 : Shape := ⟨3, ![6, 32768, 1024]⟩
abbrev S32768x8 : Shape := ⟨2, ![32768, 8]⟩
abbrev S2048x256 : Shape := ⟨2, ![2048, 256]⟩
abbrev S256x2048 : Shape := ⟨2, ![256, 2048]⟩
abbrev S2048 : Shape := ⟨1, ![2048]⟩
abbrev S6x32768x1024x2 : Shape := ⟨4, ![6, 32768, 1024, 2]⟩
abbrev S6x32768x1024x1 : Shape := ⟨4, ![6, 32768, 1024, 1]⟩
abbrev S6x32768x2048 : Shape := ⟨3, ![6, 32768, 2048]⟩
abbrev S32768x6 : Shape := ⟨2, ![32768, 6]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S6x32768x1024, .i32⟩
  | .hbm, ⟨2, _⟩ => ⟨S32768x8, .f32⟩
  | .hbm, ⟨3, _⟩ => ⟨S2048x256, .f32⟩
  | .hbm, ⟨4, _⟩ => ⟨S2048x256, .f32⟩
  | .hbm, ⟨5, _⟩ => ⟨S256x2048, .f32⟩
  | .hbm, ⟨6, _⟩ => ⟨S2048, .f32⟩
  | .hbm, ⟨7, _⟩ => ⟨S2048, .f32⟩
  | .hbm, ⟨8, _⟩ => ⟨S6x32768x1024x2, .bf16⟩
  | .hbm, ⟨9, _⟩ => ⟨S6x32768x1024x1, .bf16⟩
  | .hbm, ⟨10, _⟩ => ⟨S6x32768x1024, .bf16⟩
  | .hbm, ⟨11, _⟩ => ⟨S6x32768x1024x1, .bf16⟩
  | .hbm, ⟨12, _⟩ => ⟨S6x32768x1024, .bf16⟩
  | .hbm, ⟨13, _⟩ => ⟨S6x32768x2048, .bf16⟩
  | .hbm, ⟨14, _⟩ => ⟨S32768x6, .f32⟩
  | .hbm, ⟨15, _⟩ => ⟨S32768x2048, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S_, .f32⟩
  | .hbm, ⟨20, _⟩ => ⟨S32768x256, .f32⟩
  | .hbm, ⟨21, _⟩ => ⟨S32768x256, .f32⟩
  | .hbm, ⟨22, _⟩ => ⟨S_, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S1x2048, .f32⟩
  | .hbm, ⟨58, _⟩ => ⟨S32768x2048, .f32⟩
  | .hbm, ⟨59, _⟩ => ⟨S32768x2048, .f32⟩
  | .hbm, ⟨60, _⟩ => ⟨S1x2048, .f32⟩
  | .hbm, ⟨61, _⟩ => ⟨S32768x2048, .f32⟩
  | .hbm, ⟨62, _⟩ => ⟨S32768x2048, .f32⟩
  | .hbm, ⟨63, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== Proof.InProj.lean ====
/- The value of the input projection (`Kernel2`): the tiled matrix product over the gathered weight columns holds, at every
   index, the reference's projection with the sixteen forget-gate columns left out. -/
module

public import proofs.«01_k».proof.Proof.Gen.Kernel2Ideal.Value
public import proofs.«01_k».proof.Proof.Gen.Reference2Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference2Ideal.Value

open Cert.Reference2Ideal Cert.Reference2Ideal.Gen

/-- The reference's result as a function of the activations, the weights and the bias. -/
def REF (x : FVec Ideal S8x4096x2048 .f32) (w : FVec Ideal S2048x22544 .f32) (b : FVec Ideal S22544 .f32) :
    FVec Ideal S32768x22528 .f32 :=
  shapeCast _ (concatenate S8x4096x22528 2 [⟨S8x4096x12288, (extractStridedSlice S8x4096x12288 ![0, 0, 0] (addf (Host.dotGeneral dot_S8x4096x2048_S2048x22544_S8x4096x22544_2_0_01_1_n_n none x w) (broadcastInDim S8x4096x22544 ![0, 1, 2] bcast_S1x1x22544_S8x4096x22544_0_1_2 (broadcastInDim S1x1x22544 ![2] bcast_S22544_S1x1x22544_2 b))) slices_S8x4096x22544_S8x4096x12288_0_0_0)⟩, ⟨S8x4096x10240, (extractStridedSlice S8x4096x10240 ![0, 0, 12304] (addf (Host.dotGeneral dot_S8x4096x2048_S2048x22544_S8x4096x22544_2_0_01_1_n_n none x w) (broadcastInDim S8x4096x22544 ![0, 1, 2] bcast_S1x1x22544_S8x4096x22544_0_1_2 (broadcastInDim S1x1x22544 ![2] bcast_S22544_S1x1x22544_2 b))) slices_S8x4096x22544_S8x4096x10240_0_0_12304)⟩] concatenates_S8x4096x12288_S8x4096x10240_S8x4096x22528_d2) shapeCasts_S8x4096x22528_S32768x22528

end Cert.Reference2Ideal.Value

namespace Cert.Kernel2Ideal.Value

open Cert.Kernel2Ideal Cert.Kernel2Ideal.Gen
open Cert.Reference2Ideal.Value (REF)

variable (m : (ℓ : Loc nD τ sig) → Buf (Elt Ideal) ℓ)

/-- The block every window shows at grid point `t`: row block `t / 11`, column block `t % 11`. -/
theorem idx : ∀ t : Fin cfg0.N, win0_0.index t = ![t.val / 11, 0] ∧ win0_1.index t = ![0, t.val % 11]
    ∧ win0_2.index t = ![0, t.val % 11] ∧ win0_3.index t = ![t.val / 11, t.val % 11] :=
  (by decide +kernel : ∀ t : Fin grid0.N, _)

/-- Merging the batch and sequence axes, read at a row: row `r` is sequence position `r % 4096` of batch `r / 4096`. -/
theorem merged_at (x : FVec Ideal S8x4096x2048 .f32) (r : Fin 32768) (k : Fin 2048) :
    truncf .bf16 (shapeCast S32768x2048 x shapeCasts_S8x4096x2048_S32768x2048) bitsLt_bf16_f32 (ix2 r k)
    = x (ix3 ⟨r.val / 4096, by omega⟩ ⟨r.val % 4096, by omega⟩ k) := by
  pointwise

/-- The activations the kernel is given: the reference's, with the batch and sequence axes merged. -/
theorem V_x (c : Dev nD) (r : Fin 32768) (k : Fin 2048) : (V m c main_v15 : FVec Ideal S32768x2048 .bf16) (ix2 r k)
    = (m ((c : Thread nD τ).loc main_arg0) : FVec Ideal S8x4096x2048 .f32) (ix3 ⟨r.val / 4096, by omega⟩ ⟨r.val % 4096, by omega⟩ k) := by
  have e : @Eq (FVec Ideal S32768x2048 .bf16) (V m c main_v15) (truncf .bf16 (shapeCast S32768x2048 (m ((c : Thread nD τ).loc main_arg0) : FVec Ideal S8x4096x2048 .f32) shapeCasts_S8x4096x2048_S32768x2048) bitsLt_bf16_f32) := by
    entry_read
    rfl
  refine (congrFun e (ix2 r k)).trans ?_
  exact merged_at _ r k

/-- The weights the kernel is given: the reference's with columns 12288 to 12303 left out. -/
theorem V_w (c : Dev nD) (k : Fin 2048) (j : Fin 22528) : (V m c main_v3 : FVec Ideal S2048x22528 .bf16) (ix2 k j)
    = (m ((c : Thread nD τ).loc main_arg1) : FVec Ideal S2048x22544 .f32) (ix2 k ⟨if j.val < 12288 then j.val else j.val + 16, by split <;> omega⟩) := by
  have e : @Eq (FVec Ideal S2048x22528 .bf16) (V m c main_v3) (truncf .bf16 (concatenate S2048x22528 1 [⟨S2048x12288, extractStridedSlice S2048x12288 ![0, 0] (m ((c : Thread nD τ).loc main_arg1) : FVec Ideal S2048x22544 .f32) slices_S2048x22544_S2048x12288_0_0⟩, ⟨S2048x10240, extractStridedSlice S2048x10240 ![0, 12304] (m ((c : Thread nD τ).loc main_arg1) : FVec Ideal S2048x22544 .f32) slices_S2048x22544_S2048x10240_0_12304⟩] concatenates_S2048x12288_S2048x10240_S2048x22528_d1) bitsLt_bf16_f32) := by
    entry_read
    rfl
  refine (congrFun e (ix2 k j)).trans ?_
  pointwise
  by_cases h : j.val < 12288
  · simp only [dif_pos h, if_pos h]
  · simp only [dif_neg h, if_neg h, show 12304 + (j.val - 12288) = j.val + 16 by omega]

/-- The bias the kernel is given: the reference's with entries 12288 to 12303 left out. -/
theorem V_b (c : Dev nD) (j : Fin 22528) : (V m c main_v12 : FVec Ideal S1x22528 .f32) (ix2 0 j)
    = (m ((c : Thread nD τ).loc main_arg2) : FVec Ideal S22544 .f32) (ix1 ⟨if j.val < 12288 then j.val else j.val + 16, by split <;> omega⟩) := by
  have e : @Eq (FVec Ideal S1x22528 .f32) (V m c main_v12) (shapeCast S1x22528 (concatenate S22528 0 [⟨S12288, extractStridedSlice S12288 ![0] (m ((c : Thread nD τ).loc main_arg2) : FVec Ideal S22544 .f32) slices_S22544_S12288_0⟩, ⟨S10240, extractStridedSlice S10240 ![12304] (m ((c : Thread nD τ).loc main_arg2) : FVec Ideal S22544 .f32) slices_S22544_S10240_12304⟩] concatenates_S12288_S10240_S22528_d0) shapeCasts_S22528_S1x22528) := by
    entry_read
    rfl
  refine (congrFun e (ix2 0 j)).trans ?_
  pointwise
  by_cases h : j.val < 12288
  · simp only [dif_pos h, if_pos h]
  · simp only [dif_neg h, if_neg h, show 12304 + (j.val - 12288) = j.val + 16 by omega]

/-- The reference at row `r` and column `j`: one inner product over the weights' column, plus its bias. -/
theorem REF_at (x : FVec Ideal Cert.Reference2Ideal.S8x4096x2048 .f32) (w : FVec Ideal Cert.Reference2Ideal.S2048x22544 .f32)
    (b : FVec Ideal Cert.Reference2Ideal.S22544 .f32) (r : Fin 32768) (j : Fin 22528) :
    REF x w b (ix2 r j) = (∑ k : Fin 2048, x (ix3 ⟨r.val / 4096, by omega⟩ ⟨r.val % 4096, by omega⟩ k)
        * w (ix2 k ⟨if j.val < 12288 then j.val else j.val + 16, by split <;> omega⟩))
      + b (ix1 ⟨if j.val < 12288 then j.val else j.val + 16, by split <;> omega⟩) := by
  pointwise [REF]
  by_cases h : j.val < 12288
  · simp only [dif_pos h, if_pos h]
  · simp only [dif_neg h, if_neg h, show 12304 + (j.val - 12288) = j.val + 16 by omega]

/-- What the body stores at block index `y` of point `t` is the reference at the array index where `y` sits. -/
theorem point (c : Dev nD) (t : Fin cfg0.N) (y : S1024x2048.Idx) :
    k0_pay1 (F := Ideal) (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  idx_vars y
  have ht : t.val < 352 := t.isLt
  have hr : t.val / 11 * 1024 + y0.val < 32768 := by omega
  have hj : t.val % 11 * 2048 + y1.val < 22528 := by omega
  have e3 : ((cfg0.win 3).blk t).view.emb (ix2 y0 y1) = ix2 (⟨t.val / 11 * 1024 + y0.val, hr⟩ : Fin 32768) (⟨t.val % 11 * 2048 + y1.val, hj⟩ : Fin 22528) := by
    blk_ext [idx t]
  rw [e3]
  refine Eq.trans ?_ (REF_at _ _ _ _ _).symm
  pointwise [k0_pay1]
  blk_simp [iblk, idx t]
  refine congrArg₂ (· + ·) (Finset.sum_congr rfl fun k _ => congrArg₂ (· * ·) ?_ ?_) ?_
  · refine Eq.trans ?_ (V_x m c ⟨t.val / 11 * 1024 + y0.val, hr⟩ k)
    blk_ext [idx t]
  · refine Eq.trans ?_ (V_w m c k ⟨t.val % 11 * 2048 + y1.val, hj⟩)
    blk_ext [idx t]
  · refine Eq.trans ?_ (V_b m c ⟨t.val % 11 * 2048 + y1.val, hj⟩)
    blk_ext [idx t]

/-- The result array is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel2Ideal.Value

namespace Cert.Proof.InProj

/-- At `Ideal` the projection kernel and its reference end with equal results whenever their arguments agree. -/
theorem algebraic : Cert.algebraic_Kernel2Ideal_Reference2Ideal := by
  intro m g m' g' _ hag
  refine ⟨_, Cert.Kernel2Ideal.Value.run_blocks m g, ?_⟩
  refine (θ_run Cert.Reference2Ideal.defs _ _).mono (fun _ h c => ⟨(h c).1.trans ?_, (h c).2⟩)
    (Cert.Reference2Ideal.Value.run m' g')
  rw [(hag c).1, (hag c).2.1, (hag c).2.2]
  exact (Cert.Kernel2Ideal.Value.final m c).symm

end Cert.Proof.InProj

end
-- ==== Proof.Merge.lean ====
/- The value of the gated merge (`Kernel3`): the tiled sum of the three gated branch projections holds, at every index, the
   reference's merge. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference3Ideal.Value

open Cert.Reference3Ideal Cert.Reference3Ideal.Gen

/-- The three branches' gates, the logistic of the last 6144 columns of `z`. -/
def GATE (z : FVec Ideal S32768x22528 .f32) : FVec Ideal S32768x3x2048 .f32 :=
  (Host.divf (broadcastInDim S32768x3x2048 ![] bcast_S_S32768x3x2048 (constant S_ .f32 0x3F800000#32)) (addf (broadcastInDim S32768x3x2048 ![] bcast_S_S32768x3x2048 (constant S_ .f32 0x3F800000#32)) (Host.exp (Host.negf (shapeCast _ (extractStridedSlice S32768x6144 ![0, 16384] z slices_S32768x22528_S32768x6144_0_16384) shapeCasts_S32768x6144_S32768x3x2048)))))

/-- The reference's result as a function of the three branches, their weights and the projected activations. -/
def REF (a f q : FVec Ideal S32768x2048 .bf16) (wa wf wc : FVec Ideal S2048x2048 .f32) (z : FVec Ideal S32768x22528 .f32) :
    FVec Ideal S32768x2048 .bf16 :=
  truncf .bf16 (addf (addf (mulf (shapeCast _ (extractStridedSlice S32768x1x2048 ![0, 0, 0] (GATE z) slices_S32768x3x2048_S32768x1x2048_0_0_0) shapeCasts_S32768x1x2048_S32768x2048) (Host.dotGeneral dot_S32768x2048_S2048x2048_S32768x2048_1_0_0_1_n_n none a wa)) (mulf (shapeCast _ (extractStridedSlice S32768x1x2048 ![0, 1, 0] (GATE z) slices_S32768x3x2048_S32768x1x2048_0_1_0) shapeCasts_S32768x1x2048_S32768x2048) (Host.dotGeneral dot_S32768x2048_S2048x2048_S32768x2048_1_0_0_1_n_n none f wf))) (mulf (shapeCast _ (extractStridedSlice S32768x1x2048 ![0, 2, 0] (GATE z) slices_S32768x3x2048_S32768x1x2048_0_2_0) shapeCasts_S32768x1x2048_S32768x2048) (Host.dotGeneral dot_S32768x2048_S2048x2048_S32768x2048_1_0_0_1_n_n none q wc))) bitsLt_bf16_f32

/-- The gate of branch `b` at row `r` and column `j`. -/
theorem GATE_at (z : FVec Ideal S32768x22528 .f32) (r : Fin 32768) (b : Fin 3) (j : Fin 2048) :
    GATE z (ix3 r b j) = Ideal.div 1 (1 + Ideal.exp (-(z (ix2 r ⟨16384 + (b.val * 2048 + j.val), by omega⟩)))) := by
  pointwise [GATE]

/-- The reference at row `r` and column `j`: three gated inner products. -/
theorem REF_at (a f q : FVec Ideal S32768x2048 .bf16) (wa wf wc : FVec Ideal S2048x2048 .f32) (z : FVec Ideal S32768x22528 .f32)
    (r : Fin 32768) (j : Fin 2048) :
    REF a f q wa wf wc z (ix2 r j) = (Ideal.div 1 (1 + Ideal.exp (-(z (ix2 r ⟨16384 + j.val, by omega⟩)))) * ∑ k : Fin 2048, a (ix2 r k) * wa (ix2 k j))
      + (Ideal.div 1 (1 + Ideal.exp (-(z (ix2 r ⟨18432 + j.val, by omega⟩)))) * ∑ k : Fin 2048, f (ix2 r k) * wf (ix2 k j))
      + (Ideal.div 1 (1 + Ideal.exp (-(z (ix2 r ⟨20480 + j.val, by omega⟩)))) * ∑ k : Fin 2048, q (ix2 r k) * wc (ix2 k j)) := by
  pointwise [REF]
  have h0 := GATE_at z r 0 j
  have h1 := GATE_at z r 1 j
  have h2 := GATE_at z r 2 j
  rw [show (⟨16384 + ((0 : Fin 3).val * 2048 + j.val), by omega⟩ : Fin 22528) = ⟨16384 + j.val, by omega⟩ from Fin.ext (by simp)] at h0
  rw [show (⟨16384 + ((1 : Fin 3).val * 2048 + j.val), by omega⟩ : Fin 22528) = ⟨18432 + j.val, by omega⟩ from Fin.ext (by simp; omega)] at h1
  rw [show (⟨16384 + ((2 : Fin 3).val * 2048 + j.val), by omega⟩ : Fin 22528) = ⟨20480 + j.val, by omega⟩ from Fin.ext (by simp; omega)] at h2
  rw [h0, h1, h2]

end Cert.Reference3Ideal.Value

namespace Cert.Kernel3Ideal.Value

open Cert.Kernel3Ideal Cert.Kernel3Ideal.Gen
open Cert.Reference3Ideal.Value (REF REF_at)

variable (m : (ℓ : Loc nD τ sig) → Buf (Elt Ideal) ℓ)

/-- The block every window shows at grid point `t`: row block `t / 8`, column block `t % 8`, the gates' columns after the
    first 16384. -/
theorem idx : ∀ t : Fin cfg0.N, win0_0.index t = ![t.val / 8, 0] ∧ win0_1.index t = ![t.val / 8, 0] ∧ win0_2.index t = ![t.val / 8, 0]
    ∧ win0_3.index t = ![0, t.val % 8] ∧ win0_4.index t = ![0, t.val % 8] ∧ win0_5.index t = ![0, t.val % 8]
    ∧ win0_6.index t = ![t.val / 8, 64 + t.val % 8] ∧ win0_7.index t = ![t.val / 8, 72 + t.val % 8] ∧ win0_8.index t = ![t.val / 8, 80 + t.val % 8]
    ∧ win0_9.index t = ![t.val / 8, t.val % 8] :=
  (by decide +kernel : ∀ t : Fin grid0.N, _)

/-- The body's stored value at row `r` and column `j` of its block. -/
theorem pay_at (x0 x1 x2 : FVec Ideal S1024x2048 .bf16) (x3 x4 x5 : FVec Ideal S2048x256 .bf16) (x6 x7 x8 : FVec Ideal S1024x256 .f32)
    (r : Fin 1024) (j : Fin 256) :
    k0_pay1 (F := Ideal) (k0_pay2 x0 x3 x6 x1 x4 x7) (k0_pay3 x2 x5) x8 (ix2 r j)
    = (Ideal.div 1 (1 + Ideal.exp (-(x6 (ix2 r j)))) * ∑ k : Fin 2048, x0 (ix2 r k) * x3 (ix2 k j))
      + (Ideal.div 1 (1 + Ideal.exp (-(x7 (ix2 r j)))) * ∑ k : Fin 2048, x1 (ix2 r k) * x4 (ix2 k j))
      + (Ideal.div 1 (1 + Ideal.exp (-(x8 (ix2 r j)))) * ∑ k : Fin 2048, x2 (ix2 r k) * x5 (ix2 k j)) := by
  pointwise [k0_pay1, k0_pay2, k0_pay3]
  simp only [zero_sub]

/-- The first branch's weights as the kernel is given them: the argument. -/
theorem V_wa (c : Dev nD) : @Eq (FVec Ideal S2048x2048 .bf16) (V m c main_v0) (truncf .bf16 (m ((c : Thread nD τ).loc main_arg3) : FVec Ideal S2048x2048 .f32) bitsLt_bf16_f32) := by
  entry_read
  rfl

/-- The second branch's weights as the kernel is given them: the argument. -/
theorem V_wf (c : Dev nD) : @Eq (FVec Ideal S2048x2048 .bf16) (V m c main_v1) (truncf .bf16 (m ((c : Thread nD τ).loc main_arg4) : FVec Ideal S2048x2048 .f32) bitsLt_bf16_f32) := by
  entry_read
  rfl

/-- The third branch's weights as the kernel is given them: the argument. -/
theorem V_wc (c : Dev nD) : @Eq (FVec Ideal S2048x2048 .bf16) (V m c main_v2) (truncf .bf16 (m ((c : Thread nD τ).loc main_arg5) : FVec Ideal S2048x2048 .f32) bitsLt_bf16_f32) := by
  entry_read
  rfl

/-- What the body stores at block index `y` of point `t` is the reference at the array index where `y` sits. -/
theorem point (c : Dev nD) (t : Fin cfg0.N) (y : S1024x256.Idx) :
    k0_pay1 (F := Ideal) (k0_pay2 (iblk m c 0 t) (iblk m c 3 t) (iblk m c 6 t) (iblk m c 1 t) (iblk m c 4 t) (iblk m c 7 t)) (k0_pay3 (iblk m c 2 t) (iblk m c 5 t)) (iblk m c 8 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (((cfg0.win 9).blk t).view.emb y) := by
  idx_vars y
  have ht : t.val < 256 := t.isLt
  have hr : t.val / 8 * 1024 + y0.val < 32768 := by omega
  have hj : t.val % 8 * 256 + y1.val < 2048 := by omega
  have e9 : ((cfg0.win 9).blk t).view.emb (ix2 y0 y1) = ix2 (⟨t.val / 8 * 1024 + y0.val, hr⟩ : Fin 32768) (⟨t.val % 8 * 256 + y1.val, hj⟩ : Fin 2048) := by
    blk_ext [idx t]
  rw [e9]
  refine (pay_at _ _ _ _ _ _ _ _ _ y0 y1).trans (Eq.trans ?_ (REF_at _ _ _ _ _ _ _ _ _).symm)
  refine congrArg₂ (· + ·) (congrArg₂ (· + ·) (congrArg₂ (· * ·) (congrArg (fun u => Ideal.div 1 (1 + Ideal.exp (-u))) ?_) (Finset.sum_congr rfl fun k _ => congrArg₂ (· * ·) ?_ ?_))
      (congrArg₂ (· * ·) (congrArg (fun u => Ideal.div 1 (1 + Ideal.exp (-u))) ?_) (Finset.sum_congr rfl fun k _ => congrArg₂ (· * ·) ?_ ?_)))
    (congrArg₂ (· * ·) (congrArg (fun u => Ideal.div 1 (1 + Ideal.exp (-u))) ?_) (Finset.sum_congr rfl fun k _ => congrArg₂ (· * ·) ?_ ?_))
  · blk_ext [iblk, V, idx t]
  · blk_ext [iblk, V, idx t]
  · refine Eq.trans ?_ (congrFun (V_wa m c) (ix2 k ⟨t.val % 8 * 256 + y1.val, hj⟩))
    blk_ext [iblk, idx t]
  · blk_ext [iblk, V, idx t]
  · blk_ext [iblk, V, idx t]
  · refine Eq.trans ?_ (congrFun (V_wf m c) (ix2 k ⟨t.val % 8 * 256 + y1.val, hj⟩))
    blk_ext [iblk, idx t]
  · blk_ext [iblk, V, idx t]
  · blk_ext [iblk, V, idx t]
  · refine Eq.trans ?_ (congrFun (V_wc m c) (ix2 k ⟨t.val % 8 * 256 + y1.val, hj⟩))
    blk_ext [iblk, idx t]

/-- The result array is the reference's. -/
theorem final (c : Dev nD) : (dats m 0 c).arrAt 9 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t _ y => ?_
  blk_simp
  rw [after0_9]; frame_out
  exact point m c t y

end Cert.Kernel3Ideal.Value

namespace Cert.Proof.Merge

/-- At `Ideal` the merge kernel and its reference end with equal results whenever their arguments agree. -/
theorem algebraic : Cert.algebraic_Kernel3Ideal_Reference3Ideal := by
  intro m g m' g' _ hag
  refine ⟨_, Cert.Kernel3Ideal.Value.run_blocks m g, ?_⟩
  refine (θ_run Cert.Reference3Ideal.defs _ _).mono (fun _ h c => ⟨(h c).1.trans ?_, (h c).2⟩)
    (Cert.Reference3Ideal.Value.run m' g')
  rw [(hag c).1, (hag c).2.1, (hag c).2.2.1, (hag c).2.2.2.1, (hag c).2.2.2.2.1, (hag c).2.2.2.2.2.1, (hag c).2.2.2.2.2.2]
  exact (Cert.Kernel3Ideal.Value.final m c).symm

end Cert.Proof.Merge

end
-- ==== Proof.Online.lean ====
/- The online softmax over the extended reals: a row's running maximum and its weighted sum taken tile by tile equal those of
   the whole row, and their quotient is the softmax-weighted sum. -/
module

public import Idealize.ShloMosaic.Lib.Pointwise
public import Idealize.ShloMosaic.Lib.Claim

@[expose] public section

noncomputable section

open Idealize.ShloMosaic

namespace Cert.Proof.Online

/-- The greatest of the first `n` scores of a row, −∞ when there is none. -/
def mx (t : ℕ → EReal) (n : ℕ) : EReal := (Finset.range n).sup t

/-- The sum of the first `n` values, each weighted by two to its score less the greatest. -/
def ac (t w : ℕ → EReal) (n : ℕ) : EReal := ∑ k ∈ Finset.range n, Ideal.exp2 (t k - mx t n) * w k

/-- A nonnegative finite factor goes into a sum of extended reals. -/
theorem factor_sum {ι : Type} (S : Finset ι) (c : EReal) (h0 : 0 ≤ c) (hc : c ≠ ⊤) (f : ι → EReal) :
    c * ∑ k ∈ S, f k = ∑ k ∈ S, c * f k := by
  classical
  induction S using Finset.induction_on with
  | empty => simp
  | insert a S ha ih => rw [Finset.sum_insert ha, Finset.sum_insert ha, EReal.left_distrib_of_nonneg_of_ne_top h0 hc, ih]

/-- A sum of reals read in the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- Two to a score is nonnegative. -/
theorem exp2_nonneg (x : EReal) : 0 ≤ Ideal.exp2 x := by
  induction x with
  | bot => simp
  | top => simp
  | coe r => rw [Ideal.exp2_coe]; exact_mod_cast Real.rpow_nonneg (by norm_num) r

/-- Rescaling a weight from one reference score to a greater one. -/
theorem rescale {x m m' : EReal} (hx : x ≤ m) (hm : m ≤ m') (h : m' ≠ ⊤) :
    Ideal.exp2 (m - m') * Ideal.exp2 (x - m) = Ideal.exp2 (x - m') := by
  induction m' with
  | top => exact absurd rfl h
  | bot =>
    obtain rfl := le_bot_iff.mp hm
    obtain rfl := le_bot_iff.mp hx
    simp
  | coe b =>
    induction m with
    | top => exact absurd (top_le_iff.mp hm) (EReal.coe_ne_top b)
    | bot =>
      obtain rfl := le_bot_iff.mp hx
      simp
    | coe a =>
      induction x with
      | top => exact absurd (top_le_iff.mp hx) (EReal.coe_ne_top a)
      | bot => simp
      | coe r =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (r - a) = (2 : ℝ) ^ (r - b)
        rw [← Real.rpow_add (by norm_num)]
        congr 1
        ring

/-- The running maximum is no infinity above. -/
theorem mx_ne_top {t : ℕ → EReal} (ht : ∀ k, t k ≠ ⊤) (n : ℕ) : mx t n ≠ ⊤ := by
  unfold mx
  rw [← lt_top_iff_ne_top, Finset.sup_lt_iff (by simp)]
  exact fun k _ => lt_top_iff_ne_top.mpr (ht k)

theorem mx_mono (t : ℕ → EReal) {n n' : ℕ} (h : n ≤ n') : mx t n ≤ mx t n' :=
  Finset.sup_mono (Finset.range_mono h)

theorem le_mx (t : ℕ → EReal) {n k : ℕ} (h : k < n) : t k ≤ mx t n :=
  Finset.le_sup (Finset.mem_range.mpr h)

/-- The running maximum after one more tile of `b` scores. -/
theorem mx_tile (t : ℕ → EReal) (n b : ℕ) :
    max (mx t n) ((Finset.univ : Finset (Fin b)).fold max ⊥ fun x => t (n + x.val)) = mx t (n + b) := by
  apply le_antisymm
  · refine max_le (mx_mono t (Nat.le_add_right n b)) ?_
    show Finset.univ.sup _ ≤ _
    exact Finset.sup_le fun x _ => le_mx t (by omega)
  · refine Finset.sup_le fun k hk => ?_
    rw [Finset.mem_range] at hk
    by_cases h : k < n
    · exact le_max_of_le_left (le_mx t h)
    · refine le_max_of_le_right ?_
      show _ ≤ Finset.univ.sup _
      have := Finset.le_sup (f := fun x : Fin b => t (n + x.val)) (Finset.mem_univ (⟨k - n, by omega⟩ : Fin b))
      refine le_trans (le_of_eq ?_) this
      show t k = t (n + (k - n))
      congr 1
      omega

/-- The weighted sum after one more tile of `b` scores: the old one rescaled plus the tile's own. -/
theorem ac_tile {t : ℕ → EReal} (ht : ∀ k, t k ≠ ⊤) (w : ℕ → EReal) (n b : ℕ) :
    Ideal.exp2 (mx t n - mx t (n + b)) * ac t w n + ∑ x : Fin b, Ideal.exp2 (t (n + x.val) - mx t (n + b)) * w (n + x.val)
    = ac t w (n + b) := by
  have hm := mx_mono t (Nat.le_add_right n b)
  have htop : Ideal.exp2 (mx t n - mx t (n + b)) ≠ ⊤ := by
    intro h
    have h1 : mx t n - mx t (n + b) ≤ 0 := by
      rcases eq_or_ne (mx t (n + b)) ⊥ with hb | hb
      · rw [hb] at hm ⊢; rw [le_bot_iff.mp hm]; simp
      · exact EReal.sub_nonpos.mpr hm
    revert h h1
    generalize mx t n - mx t (n + b) = d
    intro h h1
    induction d with
    | bot => simp at h
    | top => simp at h1
    | coe r => rw [Ideal.exp2_coe] at h; exact EReal.coe_ne_top _ h
  unfold ac
  rw [factor_sum _ _ (exp2_nonneg _) htop, Finset.sum_range_add, Finset.sum_range (n := b)]
  congr 1
  refine Finset.sum_congr rfl fun k hk => ?_
  rw [← mul_assoc, rescale (le_mx t (Finset.mem_range.mp hk)) hm (mx_ne_top ht _)]

/-- No score: the maximum is −∞, -/
theorem mx_zero (t : ℕ → EReal) : mx t 0 = ⊥ := rfl

/-- the sum is zero. -/
theorem ac_zero (t w : ℕ → EReal) : ac t w 0 = 0 := rfl

/-- A tile of masked scores leaves the maximum, -/
theorem mx_skip {t : ℕ → EReal} {n n' : ℕ} (h : n ≤ n') (hb : ∀ k, n ≤ k → t k = ⊥) : mx t n' = mx t n := by
  apply le_antisymm _ (mx_mono t h)
  refine Finset.sup_le fun k hk => ?_
  by_cases hk' : k < n
  · exact le_mx t hk'
  · rw [hb k (by omega)]; exact bot_le

/-- and the weighted sum. -/
theorem ac_skip {t : ℕ → EReal} (w : ℕ → EReal) {n n' : ℕ} (h : n ≤ n') (hb : ∀ k, n ≤ k → t k = ⊥) : ac t w n' = ac t w n := by
  obtain ⟨b, rfl⟩ := Nat.exists_eq_add_of_le h
  unfold ac
  rw [mx_skip h hb, Finset.sum_range_add]
  refine (congrArg₂ (· + ·) rfl (Finset.sum_eq_zero fun k _ => ?_)).trans (add_zero _)
  rw [hb _ (Nat.le_add_right n k)]
  simp

/-- A finite set's supremum is a member's value that bounds the others'. -/
theorem sup_eq {ι : Type} (S : Finset ι) (f : ι → EReal) {k : ι} (hk : k ∈ S) (h : ∀ j ∈ S, f j ≤ f k) : S.sup f = f k :=
  le_antisymm (Finset.sup_le h) (Finset.le_sup hk)

/-- THE QUOTIENT. Over a row whose scores are real up to `q` and masked after, with the kernel's scores those of the reference
    shifted by a constant and in units of log 2: the weighted sum of the values over that of ones is the reference's
    softmax-weighted sum. -/
theorem quotient (N n q : ℕ) (hn : n ≤ N) (hq : q < n) (r : ℕ → ℝ) (c : ℝ) (t s v w : ℕ → EReal)
    (ht : ∀ k, t k = if k ≤ q then (((r k - c) * (Real.log 2)⁻¹ : ℝ) : EReal) else ⊥)
    (hs : ∀ k, s k = if k ≤ q then ((r k : ℝ) : EReal) else ⊥) (hw : ∀ k, k < n → w k = 1) :
    Ideal.div (ac t v n) (ac t w n)
    = ∑ x : Fin N, Ideal.div (Ideal.exp (s x.val - max ⊥ ((Finset.univ : Finset (Fin N)).fold max ⊥ fun y => s y.val)))
        (0 + ∑ y : Fin N, Ideal.exp (s y.val - max ⊥ ((Finset.univ : Finset (Fin N)).fold max ⊥ fun y => s y.val))) * v x.val := by
  obtain ⟨k0, hk0, hmax⟩ := Finset.exists_max_image (Finset.range (q + 1)) r ⟨0, by simp⟩
  have hk0' : k0 ≤ q := by have := Finset.mem_range.mp hk0; omega
  have hr : ∀ k, k ≤ q → r k ≤ r k0 := fun k hk => hmax k (Finset.mem_range.mpr (by omega))
  have hlog : 0 < (Real.log 2)⁻¹ := inv_pos.mpr (Real.log_pos (by norm_num))
  have hM : max ⊥ ((Finset.univ : Finset (Fin N)).fold max ⊥ fun y => s y.val) = ((r k0 : ℝ) : EReal) := by
    rw [max_eq_right bot_le]
    refine (sup_eq Finset.univ (fun y : Fin N => s y.val) (Finset.mem_univ ⟨k0, by omega⟩) fun j _ => ?_).trans (by rw [hs, if_pos hk0'])
    show s j.val ≤ s k0
    rw [hs, hs, if_pos hk0']
    split
    · exact_mod_cast hr _ (by assumption)
    · exact bot_le
  have hm : mx t n = (((r k0 - c) * (Real.log 2)⁻¹ : ℝ) : EReal) := by
    refine (sup_eq (Finset.range n) t (Finset.mem_range.mpr (by omega : k0 < n)) fun j _ => ?_).trans (by rw [ht, if_pos hk0'])
    rw [ht, ht, if_pos hk0']
    split
    · exact_mod_cast mul_le_mul_of_nonneg_right (sub_le_sub_right (hr _ (by assumption)) c) hlog.le
    · exact bot_le
  let e : ℕ → ℝ := fun k => if k ≤ q then Real.exp (r k - r k0) else 0
  have he2 : ∀ k, Ideal.exp2 (t k - mx t n) = (e k : EReal) := by
    intro k
    rw [hm, ht]
    by_cases hk : k ≤ q
    · rw [if_pos hk, ← EReal.coe_sub, Ideal.exp2_coe]
      show (((2 : ℝ) ^ ((r k - c) * (Real.log 2)⁻¹ - (r k0 - c) * (Real.log 2)⁻¹) : ℝ) : EReal) = _
      have h2 : Real.log 2 ≠ 0 := (Real.log_pos (by norm_num)).ne'
      congr 1
      simp only [e, if_pos hk]
      rw [Real.rpow_def_of_pos (by norm_num)]
      congr 1
      field_simp
      ring
    · rw [if_neg hk]
      simp [e, hk]
  have he : ∀ k, Ideal.exp (s k - ((r k0 : ℝ) : EReal)) = (e k : EReal) := by
    intro k
    rw [hs]
    by_cases hk : k ≤ q
    · rw [if_pos hk, ← EReal.coe_sub, Ideal.exp_coe]
      simp [e, hk]
    · rw [if_neg hk]
      simp [e, hk]
  have hac : ∀ u : ℕ → EReal, ac t u n = ∑ x : Fin N, (e x.val : EReal) * u x.val := by
    intro u
    obtain ⟨b, rfl⟩ := Nat.exists_eq_add_of_le hn
    rw [← Finset.sum_range (fun k => (e k : EReal) * u k), Finset.sum_range_add]
    unfold ac
    refine (Finset.sum_congr rfl fun k _ => by rw [he2]).trans ((add_zero _).symm.trans (congrArg₂ (· + ·) rfl (Finset.sum_eq_zero fun k _ => ?_).symm))
    have : ¬ n + k ≤ q := by omega
    simp [e, this]
  have hacw : ac t w n = ((∑ x : Fin N, e x.val : ℝ) : EReal) := by
    rw [hac, coe_sum]
    refine Finset.sum_congr rfl fun x _ => ?_
    by_cases hx : x.val < n
    · rw [hw _ hx, mul_one]
    · have : ¬ x.val ≤ q := by omega
      simp [e, this]
  have hZ : (0 : ℝ) < ∑ x : Fin N, e x.val := by
    refine Finset.sum_pos' (fun x _ => ?_) ⟨⟨k0, by omega⟩, Finset.mem_univ _, ?_⟩
    · simp only [e]; split
      · exact (Real.exp_pos _).le
      · exact le_rfl
    · simp [e, hk0']
  have hZ' : ((∑ x : Fin N, e x.val : ℝ) : EReal) ≠ 0 := by exact_mod_cast hZ.ne'
  have hsum : (0 + ∑ y : Fin N, (e y.val : EReal)) = ((∑ x : Fin N, e x.val : ℝ) : EReal) := by
    rw [zero_add, coe_sum]
  rw [hM]
  simp only [he]
  rw [hsum, hacw, hac]
  unfold Ideal.div
  rw [if_neg hZ', ← EReal.coe_inv, mul_comm, factor_sum _ _ (by exact_mod_cast (inv_pos.mpr hZ).le) (EReal.coe_ne_top _)]
  refine Finset.sum_congr rfl fun x _ => ?_
  rw [if_neg hZ', ← mul_assoc, mul_comm ((_ : ℝ) : EReal) (e x.val : EReal)]

end Cert.Proof.Online
-- ==== Proof.FoxScore.lean ====
/- The scores of the forgetting attention: what each tile of the kernel computes of a query row and a key. -/
module

public import proofs.«01_k».proof.Defs
public import proofs.«01_k».proof.Proof.Online
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_tile ac_tile)

/-- The constant `log2e`: one over log 2. -/
theorem log2e_eq : Named.named (F := Ideal) κ "log2e" (φ := .f32) 0x3FB8AA3B#32 = (((Real.log 2)⁻¹ : ℝ) : EReal) :=
  IdealRules.named_const.ideal_named_scalar _ _ _ _ rfl

/-- The constant `mask`: −∞. -/
theorem mask_eq : Named.named (F := Ideal) κ "mask" (φ := .f32) 0xF149F2CA#32 = (⊥ : EReal) :=
  IdealRules.named_const.ideal_named_scalar _ _ _ _ rfl

/-- The word of −∞. -/
theorem bot_eq : Ideal.ofBits .f32 0xFF800000#32 = (⊥ : EReal) := by
  simp [Ideal.ofBits, Ideal.ieee]

/-- The score of query row `Q` with key `k`, in units of log 2: the inner product plus the key's gate. -/
def sc (Q : Fin 128 → EReal) (K : ℕ → Fin 128 → EReal) (NC : ℕ → EReal) (k : ℕ) : EReal :=
  ∑ d : Fin 128, Q d * K k d + NC k * (((Real.log 2)⁻¹ : ℝ) : EReal)

/-- The causal scores of row `i` of the query block that begins at row `o`: masked after the row's own key. -/
def T (o : ℕ) (Q : ℕ → Fin 128 → EReal) (K : ℕ → Fin 128 → EReal) (NC : ℕ → EReal) (i k : ℕ) : EReal :=
  if k ≤ o + i then sc (Q i) K NC k else ⊥

/-- A select on a comparison of two small numbers. -/
theorem sel_le (a b : ℕ) (ha : a < 4096) (hb : b < 4096) (x y : EReal) :
    Scalar.select (α := EReal) (IntOp.cmpi .sle (BitVec.ofNat 32 a) (BitVec.ofNat 32 b)) x y = if a ≤ b then x else y := by
  have h : (BitVec.ofNat 32 a).sle (BitVec.ofNat 32 b) = decide (a ≤ b) := by
    rw [BitVec.sle_eq_decide, BitVec.toInt_ofNat', BitVec.toInt_ofNat']
    simp only [Int.bmod_def]
    congr 1
    apply propext
    constructor <;> intro h <;> omega
  by_cases hab : a ≤ b
  · simp [Scalar.select, IntOp.cmpi, h, hab]
  · simp [Scalar.select, IntOp.cmpi, h, hab]

/-- Four slabs of 128 lanes side by side are one of 512. -/
theorem slab {n x : ℕ} (f : ℕ → EReal) :
    (if x < 128 then f (n + x) else if x - 128 < 128 then f (n + (128 + (x - 128))) else if x - 128 - 128 < 128 then f (n + (256 + (x - 128 - 128))) else f (n + (384 + (x - 128 - 128 - 128)))) = f (n + x) := by
  split_ifs
  · rfl
  · rw [show 128 + (x - 128) = x by omega]
  · rw [show 256 + (x - 128 - 128) = x by omega]
  · rw [show 384 + (x - 128 - 128 - 128) = x by omega]

/-- The scores of a tile of keys wholly before the query block. -/
theorem s_full (o n : ℕ) (Q K : ℕ → Fin 128 → EReal) (NC : ℕ → EReal) (hno : n + 512 ≤ o) (q : FVec Ideal S1x2048x128 .bf16) (kt : FVec Ideal S1x128x512 .bf16) (nc : FVec Ideal S1x1x1x512 .f32)
    (hq : ∀ (i : Fin 2048) (d : Fin 128), q (ix3 0 i d) = Q (i.val) d) (hk : ∀ (d : Fin 128) (c : Fin 512), kt (ix3 0 d c) = K (n + c.val) d)
    (hn : ∀ c : Fin 512, nc (ix4 0 0 0 c) = NC (n + c.val)) (i : Fin 2048) (c : Fin 512) :
    k0_pay17 (F := Ideal) q kt nc (ix2 i c) = T o Q K NC (i.val) (n + c.val) := by
  pointwise [k0_pay17]
  rw [log2e_eq]
  unfold T sc
  rw [if_pos (by omega)]
  simp only [hq, hk, hn]

/-- The scores of the block's first tile of its own keys. -/
theorem s_d0 (o : ℕ) (Q K : ℕ → Fin 128 → EReal) (NC : ℕ → EReal) (q : FVec Ideal S1x2048x128 .bf16) (kt : FVec Ideal S1x128x512 .bf16) (nc : FVec Ideal S1x1x1x512 .f32)
    (hq : ∀ (i : Fin 2048) (d : Fin 128), q (ix3 0 i d) = Q (i.val) d) (hk : ∀ (d : Fin 128) (c : Fin 512), kt (ix3 0 d c) = K (o + c.val) d)
    (hn : ∀ c : Fin 512, nc (ix4 0 0 0 c) = NC (o + c.val)) (i : Fin 2048) (c : Fin 512) :
    k0_pay38 (F := Ideal) q kt nc (ix2 i c) = T o Q K NC (i.val) (o + c.val) := by
  pointwise [k0_pay38]
  rw [log2e_eq]
  unfold T sc
  rw [mask_eq]
  refine (sel_le c.val i.val (by omega) (by omega) _ _).trans ?_
  refine if_congr (by omega) ?_ rfl
  simp only [hq, hk, hn]

/-- The scores of the block's second tile of its own keys (rows from 512). -/
theorem s_d1 (o : ℕ) (Q K : ℕ → Fin 128 → EReal) (NC : ℕ → EReal) (q : FVec Ideal S1x1536x128 .bf16) (kt : FVec Ideal S1x128x512 .bf16) (nc : FVec Ideal S1x1x1x512 .f32)
    (hq : ∀ (i : Fin 1536) (d : Fin 128), q (ix3 0 i d) = Q (512 + i.val) d) (hk : ∀ (d : Fin 128) (c : Fin 512), kt (ix3 0 d c) = K ((o + 512) + c.val) d)
    (hn : ∀ c : Fin 512, nc (ix4 0 0 0 c) = NC ((o + 512) + c.val)) (i : Fin 1536) (c : Fin 512) :
    k0_pay45 (F := Ideal) q kt nc (ix2 i c) = T o Q K NC (512 + i.val) ((o + 512) + c.val) := by
  pointwise [k0_pay45]
  rw [log2e_eq]
  unfold T sc
  rw [mask_eq]
  refine (sel_le c.val i.val (by omega) (by omega) _ _).trans ?_
  refine if_congr (by omega) ?_ rfl
  simp only [hq, hk, hn]

/-- The scores of the block's third tile of its own keys (rows from 1024). -/
theorem s_d2 (o : ℕ) (Q K : ℕ → Fin 128 → EReal) (NC : ℕ → EReal) (q : FVec Ideal S1x1024x128 .bf16) (kt : FVec Ideal S1x128x512 .bf16) (nc : FVec Ideal S1x1x1x512 .f32)
    (hq : ∀ (i : Fin 1024) (d : Fin 128), q (ix3 0 i d) = Q (1024 + i.val) d) (hk : ∀ (d : Fin 128) (c : Fin 512), kt (ix3 0 d c) = K ((o + 1024) + c.val) d)
    (hn : ∀ c : Fin 512, nc (ix4 0 0 0 c) = NC ((o + 1024) + c.val)) (i : Fin 1024) (c : Fin 512) :
    k0_pay50 (F := Ideal) q kt nc (ix2 i c) = T o Q K NC (1024 + i.val) ((o + 1024) + c.val) := by
  pointwise [k0_pay50]
  rw [log2e_eq]
  unfold T sc
  rw [mask_eq]
  refine (sel_le c.val i.val (by omega) (by omega) _ _).trans ?_
  refine if_congr (by omega) ?_ rfl
  simp only [hq, hk, hn]

/-- The scores of the block's last tile of its own keys (rows from 1536). -/
theorem s_d3 (o : ℕ) (Q K : ℕ → Fin 128 → EReal) (NC : ℕ → EReal) (q : FVec Ideal S1x512x128 .bf16) (kt : FVec Ideal S1x128x512 .bf16) (nc : FVec Ideal S1x1x1x512 .f32)
    (hq : ∀ (i : Fin 512) (d : Fin 128), q (ix3 0 i d) = Q (1536 + i.val) d) (hk : ∀ (d : Fin 128) (c : Fin 512), kt (ix3 0 d c) = K ((o + 1536) + c.val) d)
    (hn : ∀ c : Fin 512, nc (ix4 0 0 0 c) = NC ((o + 1536) + c.val)) (i : Fin 512) (c : Fin 512) :
    k0_pay58 (F := Ideal) q kt nc (ix2 i c) = T o Q K NC (1536 + i.val) ((o + 1536) + c.val) := by
  pointwise [k0_pay58]
  rw [log2e_eq]
  unfold T sc
  rw [mask_eq]
  refine (sel_le c.val i.val (by omega) (by omega) _ _).trans ?_
  refine if_congr (by omega) ?_ rfl
  simp only [hq, hk, hn]

end Cert.KernelIdeal.Value
-- ==== Proof.FoxTileFull.lean ====
/- The tile steps of the forgetting attention: one tile of keys takes each row's running maximum and weighted sum from the keys
   before it to the keys up to its end (tiles before the query block). -/
module

public import proofs.«01_k».proof.Proof.FoxScore

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_tile ac_tile)

/-- The maxima after a tile of keys wholly before the query block. -/
theorem m_full (n : ℕ) (t : ℕ → ℕ → EReal) (q : FVec Ideal S1x2048x128 .bf16) (kt : FVec Ideal S1x128x512 .bf16) (nc : FVec Ideal S1x1x1x512 .f32) (m : FVec Ideal S1x2048x128 .f32)
    (hs : ∀ (i : Fin 2048) (c : Fin 512), k0_pay17 (F := Ideal) q kt nc (ix2 i c) = t (i.val) (n + c.val))
    (hm : ∀ (i : Fin 2048) (l : Fin 128), m (ix3 0 i l) = mx (t (i.val)) n) (i : Fin 2048) (l : Fin 128) :
    k0_pay19 (F := Ideal) q kt nc m (ix2 i l) = mx (t (i.val)) (n + 512) := by
  pointwise [k0_pay19, k0_pay18]
  simp only [hs, hm]
  exact (congrArg (fun b => max _ (Finset.univ.fold max b _)) bot_eq).trans (mx_tile _ _ _)

/-- The weighted sums after a tile of keys wholly before the query block. -/
theorem a_full (n : ℕ) (t : ℕ → ℕ → EReal) (W : ℕ → Fin 256 → EReal) (ht : ∀ i k, t i k ≠ ⊤) (q : FVec Ideal S1x2048x128 .bf16) (kt : FVec Ideal S1x128x512 .bf16) (nc : FVec Ideal S1x1x1x512 .f32) (m : FVec Ideal S1x2048x128 .f32) (vx : FVec Ideal S1x512x256 .bf16) (a : FVec Ideal S1x2048x256 .f32)
    (hs : ∀ (i : Fin 2048) (c : Fin 512), k0_pay17 (F := Ideal) q kt nc (ix2 i c) = t (i.val) (n + c.val))
    (hm : ∀ (i : Fin 2048) (l : Fin 128), m (ix3 0 i l) = mx (t (i.val)) n)
    (hv : ∀ (c : Fin 512) (j : Fin 256), vx (ix3 0 c j) = W (n + c.val) j)
    (ha : ∀ (i : Fin 2048) (j : Fin 256), a (ix3 0 i j) = ac (t (i.val)) (fun k => W k j) n) (i : Fin 2048) (j : Fin 256) :
    k0_pay34 (F := Ideal) (k0_pay20 q kt nc m) (k0_pay21 q kt nc m vx) a (ix3 0 i j) = ac (t (i.val)) (fun k => W k j) (n + 512) := by
  have hM := m_full n t q kt nc m hs hm
  pointwise [k0_pay34, k0_pay20, k0_pay21, k0_pay18]
  simp only [hM, hs, hm, ha, hv, dite_eq_ite, ite_self]
  refine Eq.trans (congrArg₂ (· + ·) rfl (Finset.sum_congr rfl fun x _ => congrArg₂ (· * ·) ?_ rfl)) (ac_tile (ht _) _ n 512)
  exact slab fun k => Ideal.exp2 (t (i.val) k - mx (t (i.val)) (n + 512))

/-- The maxima stored after a tile of keys wholly before the query block. -/
theorem mst_full (n : ℕ) (t : ℕ → ℕ → EReal) (q : FVec Ideal S1x2048x128 .bf16) (kt : FVec Ideal S1x128x512 .bf16) (nc : FVec Ideal S1x1x1x512 .f32) (m : FVec Ideal S1x2048x128 .f32)
    (hs : ∀ (i : Fin 2048) (c : Fin 512), k0_pay17 (F := Ideal) q kt nc (ix2 i c) = t (i.val) (n + c.val))
    (hm : ∀ (i : Fin 2048) (l : Fin 128), m (ix3 0 i l) = mx (t (i.val)) n) (i : Fin 2048) (l : Fin 128) :
    k0_pay35 (F := Ideal) (k0_pay19 q kt nc m) (ix3 0 i l) = mx (t (i.val)) (n + 512) := by
  have hM := m_full n t q kt nc m hs hm
  pointwise [k0_pay35]
  exact hM i l

end Cert.KernelIdeal.Value
-- ==== Proof.FoxTileA.lean ====
/- The tile steps of the forgetting attention: one tile of keys takes each row's running maximum and weighted sum from the keys
   before it to the keys up to its end (the first of the block's own tiles). -/
module

public import proofs.«01_k».proof.Proof.FoxScore

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_tile ac_tile)

/-- The maxima after the block's first tile of its own keys. -/
theorem m_d0 (n : ℕ) (t : ℕ → ℕ → EReal) (q : FVec Ideal S1x2048x128 .bf16) (kt : FVec Ideal S1x128x512 .bf16) (nc : FVec Ideal S1x1x1x512 .f32) (m : FVec Ideal S1x2048x128 .f32)
    (hs : ∀ (i : Fin 2048) (c : Fin 512), k0_pay38 (F := Ideal) q kt nc (ix2 i c) = t (i.val) (n + c.val))
    (hm : ∀ (i : Fin 2048) (l : Fin 128), m (ix3 0 i l) = mx (t (i.val)) n) (i : Fin 2048) (l : Fin 128) :
    k0_pay40 (F := Ideal) q kt nc m (ix2 i l) = mx (t (i.val)) (n + 512) := by
  pointwise [k0_pay40, k0_pay39]
  simp only [hs, hm]
  exact (congrArg (fun b => max _ (Finset.univ.fold max b _)) bot_eq).trans (mx_tile _ _ _)

/-- The weighted sums after the block's first tile of its own keys. -/
theorem a_d0 (n : ℕ) (t : ℕ → ℕ → EReal) (W : ℕ → Fin 256 → EReal) (ht : ∀ i k, t i k ≠ ⊤) (q : FVec Ideal S1x2048x128 .bf16) (kt : FVec Ideal S1x128x512 .bf16) (nc : FVec Ideal S1x1x1x512 .f32) (m : FVec Ideal S1x2048x128 .f32) (vx : FVec Ideal S1x512x256 .bf16) (a : FVec Ideal S1x2048x256 .f32)
    (hs : ∀ (i : Fin 2048) (c : Fin 512), k0_pay38 (F := Ideal) q kt nc (ix2 i c) = t (i.val) (n + c.val))
    (hm : ∀ (i : Fin 2048) (l : Fin 128), m (ix3 0 i l) = mx (t (i.val)) n)
    (hv : ∀ (c : Fin 512) (j : Fin 256), vx (ix3 0 c j) = W (n + c.val) j)
    (ha : ∀ (i : Fin 2048) (j : Fin 256), a (ix3 0 i j) = ac (t (i.val)) (fun k => W k j) n) (i : Fin 2048) (j : Fin 256) :
    k0_pay43 (F := Ideal) (k0_pay41 q kt nc m) (k0_pay42 q kt nc m) vx a (ix3 0 i j) = ac (t (i.val)) (fun k => W k j) (n + 512) := by
  have hM := m_d0 n t q kt nc m hs hm
  pointwise [k0_pay43, k0_pay41, k0_pay42, k0_pay39]
  simp only [hM, hs, hm, ha, hv, dite_eq_ite, ite_self]
  refine Eq.trans (congrArg₂ (· + ·) rfl (Finset.sum_congr rfl fun x _ => congrArg₂ (· * ·) ?_ rfl)) (ac_tile (ht _) _ n 512)
  exact slab fun k => Ideal.exp2 (t (i.val) k - mx (t (i.val)) (n + 512))

/-- The maxima stored after the block's first tile of its own keys. -/
theorem mst_d0 (n : ℕ) (t : ℕ → ℕ → EReal) (q : FVec Ideal S1x2048x128 .bf16) (kt : FVec Ideal S1x128x512 .bf16) (nc : FVec Ideal S1x1x1x512 .f32) (m : FVec Ideal S1x2048x128 .f32)
    (hs : ∀ (i : Fin 2048) (c : Fin 512), k0_pay38 (F := Ideal) q kt nc (ix2 i c) = t (i.val) (n + c.val))
    (hm : ∀ (i : Fin 2048) (l : Fin 128), m (ix3 0 i l) = mx (t (i.val)) n) (i : Fin 2048) (l : Fin 128) :
    k0_pay44 (F := Ideal) (k0_pay40 q kt nc m) (ix3 0 i l) = mx (t (i.val)) (n + 512) := by
  have hM := m_d0 n t q kt nc m hs hm
  pointwise [k0_pay44]
  exact hM i l

end Cert.KernelIdeal.Value
-- ==== Proof.FoxTileB.lean ====
/- The tile steps of the forgetting attention: one tile of keys takes each row's running maximum and weighted sum from the keys
   before it to the keys up to its end (the second of the block's own tiles). -/
module

public import proofs.«01_k».proof.Proof.FoxScore

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_tile ac_tile)

/-- The maxima after the block's second tile of its own keys (rows from 512). -/
theorem m_d1 (n : ℕ) (t : ℕ → ℕ → EReal) (s : FVec Ideal S1536x512 .f32) (m : FVec Ideal S1x1536x128 .f32)
    (hs : ∀ (i : Fin 1536) (c : Fin 512), s (ix2 i c) = t (512 + i.val) (n + c.val))
    (hm : ∀ (i : Fin 1536) (l : Fin 128), m (ix3 0 i l) = mx (t (512 + i.val)) n) (i : Fin 1536) (l : Fin 128) :
    k0_pay47 (F := Ideal) s m (ix2 i l) = mx (t (512 + i.val)) (n + 512) := by
  pointwise [k0_pay47, k0_pay46]
  simp only [hs, hm]
  exact (congrArg (fun b => max _ (Finset.univ.fold max b _)) bot_eq).trans (mx_tile _ _ _)

/-- The weighted sums after the block's second tile of its own keys (rows from 512). -/
theorem a_d1 (n : ℕ) (t : ℕ → ℕ → EReal) (W : ℕ → Fin 256 → EReal) (ht : ∀ i k, t i k ≠ ⊤) (s : FVec Ideal S1536x512 .f32) (m : FVec Ideal S1x1536x128 .f32) (vx : FVec Ideal S1x512x256 .bf16) (a : FVec Ideal S1x1536x256 .f32)
    (hs : ∀ (i : Fin 1536) (c : Fin 512), s (ix2 i c) = t (512 + i.val) (n + c.val))
    (hm : ∀ (i : Fin 1536) (l : Fin 128), m (ix3 0 i l) = mx (t (512 + i.val)) n)
    (hv : ∀ (c : Fin 512) (j : Fin 256), vx (ix3 0 c j) = W (n + c.val) j)
    (ha : ∀ (i : Fin 1536) (j : Fin 256), a (ix3 0 i j) = ac (t (512 + i.val)) (fun k => W k j) n) (i : Fin 1536) (j : Fin 256) :
    k0_pay48 (F := Ideal) s m vx a (ix3 0 i j) = ac (t (512 + i.val)) (fun k => W k j) (n + 512) := by
  have hM := m_d1 n t s m hs hm
  pointwise [k0_pay48, k0_pay46]
  simp only [hM, hs, hm, ha, hv, dite_eq_ite, ite_self]
  refine Eq.trans (congrArg₂ (· + ·) rfl (Finset.sum_congr rfl fun x _ => congrArg₂ (· * ·) ?_ rfl)) (ac_tile (ht _) _ n 512)
  exact slab fun k => Ideal.exp2 (t (512 + i.val) k - mx (t (512 + i.val)) (n + 512))

/-- The maxima stored after the block's second tile of its own keys (rows from 512). -/
theorem mst_d1 (n : ℕ) (t : ℕ → ℕ → EReal) (s : FVec Ideal S1536x512 .f32) (m : FVec Ideal S1x1536x128 .f32)
    (hs : ∀ (i : Fin 1536) (c : Fin 512), s (ix2 i c) = t (512 + i.val) (n + c.val))
    (hm : ∀ (i : Fin 1536) (l : Fin 128), m (ix3 0 i l) = mx (t (512 + i.val)) n) (i : Fin 1536) (l : Fin 128) :
    k0_pay49 (F := Ideal) s m (ix3 0 i l) = mx (t (512 + i.val)) (n + 512) := by
  have hM := m_d1 n t s m hs hm
  pointwise [k0_pay49]
  exact hM i l

end Cert.KernelIdeal.Value
-- ==== Proof.FoxTileC.lean ====
/- The tile steps of the forgetting attention: one tile of keys takes each row's running maximum and weighted sum from the keys
   before it to the keys up to its end (the third of the block's own tiles). -/
module

public import proofs.«01_k».proof.Proof.FoxScore

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_tile ac_tile)

/-- The maxima after the block's third tile of its own keys (rows from 1024). -/
theorem m_d2 (n : ℕ) (t : ℕ → ℕ → EReal) (q : FVec Ideal S1x1024x128 .bf16) (kt : FVec Ideal S1x128x512 .bf16) (nc : FVec Ideal S1x1x1x512 .f32) (m : FVec Ideal S1x1024x128 .f32)
    (hs : ∀ (i : Fin 1024) (c : Fin 512), k0_pay50 (F := Ideal) q kt nc (ix2 i c) = t (1024 + i.val) (n + c.val))
    (hm : ∀ (i : Fin 1024) (l : Fin 128), m (ix3 0 i l) = mx (t (1024 + i.val)) n) (i : Fin 1024) (l : Fin 128) :
    k0_pay52 (F := Ideal) q kt nc m (ix2 i l) = mx (t (1024 + i.val)) (n + 512) := by
  pointwise [k0_pay52, k0_pay51]
  simp only [hs, hm]
  exact (congrArg (fun b => max _ (Finset.univ.fold max b _)) bot_eq).trans (mx_tile _ _ _)

/-- The weighted sums after the block's third tile of its own keys (rows from 1024). -/
theorem a_d2 (n : ℕ) (t : ℕ → ℕ → EReal) (W : ℕ → Fin 256 → EReal) (ht : ∀ i k, t i k ≠ ⊤) (q : FVec Ideal S1x1024x128 .bf16) (kt : FVec Ideal S1x128x512 .bf16) (nc : FVec Ideal S1x1x1x512 .f32) (m : FVec Ideal S1x1024x128 .f32) (vx : FVec Ideal S1x512x256 .bf16) (a : FVec Ideal S1x1024x256 .f32)
    (hs : ∀ (i : Fin 1024) (c : Fin 512), k0_pay50 (F := Ideal) q kt nc (ix2 i c) = t (1024 + i.val) (n + c.val))
    (hm : ∀ (i : Fin 1024) (l : Fin 128), m (ix3 0 i l) = mx (t (1024 + i.val)) n)
    (hv : ∀ (c : Fin 512) (j : Fin 256), vx (ix3 0 c j) = W (n + c.val) j)
    (ha : ∀ (i : Fin 1024) (j : Fin 256), a (ix3 0 i j) = ac (t (1024 + i.val)) (fun k => W k j) n) (i : Fin 1024) (j : Fin 256) :
    k0_pay56 (F := Ideal) (k0_pay53 q kt nc m) (k0_pay54 q kt nc m) (k0_pay55 vx) a (ix3 0 i j) = ac (t (1024 + i.val)) (fun k => W k j) (n + 512) := by
  have hM := m_d2 n t q kt nc m hs hm
  pointwise [k0_pay56, k0_pay53, k0_pay54, k0_pay55, k0_pay51]
  simp only [hM, hs, hm, ha, hv, dite_eq_ite, ite_self]
  refine Eq.trans (congrArg₂ (· + ·) rfl (Finset.sum_congr rfl fun x _ => congrArg₂ (· * ·) ?_ rfl)) (ac_tile (ht _) _ n 512)
  exact slab fun k => Ideal.exp2 (t (1024 + i.val) k - mx (t (1024 + i.val)) (n + 512))

/-- The maxima stored after the block's third tile of its own keys (rows from 1024). -/
theorem mst_d2 (n : ℕ) (t : ℕ → ℕ → EReal) (q : FVec Ideal S1x1024x128 .bf16) (kt : FVec Ideal S1x128x512 .bf16) (nc : FVec Ideal S1x1x1x512 .f32) (m : FVec Ideal S1x1024x128 .f32)
    (hs : ∀ (i : Fin 1024) (c : Fin 512), k0_pay50 (F := Ideal) q kt nc (ix2 i c) = t (1024 + i.val) (n + c.val))
    (hm : ∀ (i : Fin 1024) (l : Fin 128), m (ix3 0 i l) = mx (t (1024 + i.val)) n) (i : Fin 1024) (l : Fin 128) :
    k0_pay57 (F := Ideal) (k0_pay52 q kt nc m) (ix3 0 i l) = mx (t (1024 + i.val)) (n + 512) := by
  have hM := m_d2 n t q kt nc m hs hm
  pointwise [k0_pay57]
  exact hM i l

end Cert.KernelIdeal.Value
-- ==== Proof.FoxTileD.lean ====
/- The tile steps of the forgetting attention: one tile of keys takes each row's running maximum and weighted sum from the keys
   before it to the keys up to its end (the last of the block's own tiles). -/
module

public import proofs.«01_k».proof.Proof.FoxScore

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_tile ac_tile)

/-- The maxima after the block's last tile of its own keys (rows from 1536). -/
theorem m_d3 (n : ℕ) (t : ℕ → ℕ → EReal) (s : FVec Ideal S512x512 .f32) (m : FVec Ideal S1x512x128 .f32)
    (hs : ∀ (i : Fin 512) (c : Fin 512), s (ix2 i c) = t (1536 + i.val) (n + c.val))
    (hm : ∀ (i : Fin 512) (l : Fin 128), m (ix3 0 i l) = mx (t (1536 + i.val)) n) (i : Fin 512) (l : Fin 128) :
    k0_pay60 (F := Ideal) s m (ix2 i l) = mx (t (1536 + i.val)) (n + 512) := by
  pointwise [k0_pay60, k0_pay59]
  simp only [hs, hm]
  exact (congrArg (fun b => max _ (Finset.univ.fold max b _)) bot_eq).trans (mx_tile _ _ _)

/-- The weighted sums after the block's last tile of its own keys (rows from 1536). -/
theorem a_d3 (n : ℕ) (t : ℕ → ℕ → EReal) (W : ℕ → Fin 256 → EReal) (ht : ∀ i k, t i k ≠ ⊤) (s : FVec Ideal S512x512 .f32) (m : FVec Ideal S1x512x128 .f32) (vx : FVec Ideal S1x512x256 .bf16) (a : FVec Ideal S1x512x256 .f32)
    (hs : ∀ (i : Fin 512) (c : Fin 512), s (ix2 i c) = t (1536 + i.val) (n + c.val))
    (hm : ∀ (i : Fin 512) (l : Fin 128), m (ix3 0 i l) = mx (t (1536 + i.val)) n)
    (hv : ∀ (c : Fin 512) (j : Fin 256), vx (ix3 0 c j) = W (n + c.val) j)
    (ha : ∀ (i : Fin 512) (j : Fin 256), a (ix3 0 i j) = ac (t (1536 + i.val)) (fun k => W k j) n) (i : Fin 512) (j : Fin 256) :
    k0_pay61 (F := Ideal) s m vx a (ix3 0 i j) = ac (t (1536 + i.val)) (fun k => W k j) (n + 512) := by
  have hM := m_d3 n t s m hs hm
  pointwise [k0_pay61, k0_pay59]
  simp only [hM, hs, hm, ha, hv, dite_eq_ite, ite_self]
  refine Eq.trans (congrArg₂ (· + ·) rfl (Finset.sum_congr rfl fun x _ => congrArg₂ (· * ·) ?_ rfl)) (ac_tile (ht _) _ n 512)
  exact slab fun k => Ideal.exp2 (t (1536 + i.val) k - mx (t (1536 + i.val)) (n + 512))

end Cert.KernelIdeal.Value
-- ==== Proof.FoxStep.lean ====
/- The tile steps on the kernel's scratch: what a tile's two stores leave of the running maxima and the weighted sums, as
   functions of the pieces written. -/
module

public import proofs.«01_k».proof.Proof.FoxTileFull
public import proofs.«01_k».proof.Proof.FoxTileA
public import proofs.«01_k».proof.Proof.FoxTileB
public import proofs.«01_k».proof.Proof.FoxTileC
public import proofs.«01_k».proof.Proof.FoxTileD

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_skip ac_skip)

/-- Under the newest piece, rows `ro …` of the scratch, the canon is the piece's payload; -/
theorem canon_in {e : EltTy} {W R ro : ℕ} (inb : ∀ a, (![0, ro, 0] : Fin 3 → ℕ) a + (![1, R, W] : Fin 3 → ℕ) a ≤ (⟨3, ![1, 2048, W]⟩ : Shape).size a)
    (w : (Rect.unit (s := ⟨3, ![1, 2048, W]⟩) ![0, ro, 0] ![1, R, W] inb).shape.Idx → Elt Ideal e) (L : List (View.Piece (Elt Ideal) ⟨3, ![1, 2048, W]⟩ e))
    (i : Fin R) (i' : Fin 2048) (hi : i'.val = ro + i.val) (l : Fin W) :
    View.canon (⟨Rect.unit ![0, ro, 0] ![1, R, W] inb, w⟩ :: L) (ix3 0 i' l) = w (ix3 0 i l) := by
  refine Eq.trans (congrArg _ ?_) (View.canon_cons_emb _ w L (ix3 0 i l))
  funext a
  apply Fin.ext
  match a with
  | 0 => rfl
  | 1 => show i'.val = ro + 1 * i.val; omega
  | 2 => show l.val = 0 + 1 * l.val; omega

/-- above it, what the earlier pieces left. -/
theorem canon_out {e : EltTy} {W R ro : ℕ} (inb : ∀ a, (![0, ro, 0] : Fin 3 → ℕ) a + (![1, R, W] : Fin 3 → ℕ) a ≤ (⟨3, ![1, 2048, W]⟩ : Shape).size a)
    (w : (Rect.unit (s := ⟨3, ![1, 2048, W]⟩) ![0, ro, 0] ![1, R, W] inb).shape.Idx → Elt Ideal e) (L : List (View.Piece (Elt Ideal) ⟨3, ![1, 2048, W]⟩ e))
    (i' : Fin 2048) (hi : i'.val < ro) (l : Fin W) :
    View.canon (⟨Rect.unit ![0, ro, 0] ![1, R, W] inb, w⟩ :: L) (ix3 0 i' l) = View.canon L (ix3 0 i' l) := by
  refine View.canon_cons_of_not_mem _ _ fun h => ?_
  have h0 : ix3 0 i' l ∈ (Rect.unit (s := ⟨3, ![1, 2048, W]⟩) ![0, ro, 0] ![1, R, W] inb).set := h
  have h1 : ro ≤ i'.val := (Rect.mem_set_unit.mp h0 1).1
  omega

/-- A load of rows `ro …` of the scratch reads the canon there. -/
theorem rd_rows {e : EltTy} {sig : RefSig} {κ : Kind} {sp : Space} {W' W R ro : ℕ} (v : View sig κ sp (⟨3, ![1, 2048, W']⟩ : Shape) e)
    (inb : ∀ a, (![0, ro, 0] : Fin 3 → ℕ) a + (![1, R, W] : Fin 3 → ℕ) a ≤ (⟨3, ![1, 2048, W']⟩ : Shape).size a)
    (L : List (View.Piece (Elt Ideal) ⟨3, ![1, 2048, W']⟩ e)) (i : Fin R) (i' : Fin 2048) (hi : i'.val = ro + i.val) (l : Fin W) (l' : Fin W') (hl : l'.val = l.val) :
    v.readCov L (Rect.unit (s := ⟨3, ![1, 2048, W']⟩) ![0, ro, 0] ![1, R, W] inb).toLoadRect (ix3 0 i l) = View.canon L (ix3 0 i' l') := by
  rw [View.readCov_eq_canon']
  refine congrArg _ ?_
  funext a
  apply Fin.ext
  match a with
  | 0 => rfl
  | 1 => show ro + 1 * i.val = i'.val; omega
  | 2 => show 0 + 1 * l.val = l'.val; omega

/-- A load of a tile of the transposed keys. -/
theorem rd_kt {sig : RefSig} {κ : Kind} {sp : Space} (v : View sig κ sp S1x128x4096 .bf16) (f : v.ty.Contents (Elt Ideal)) {off : Fin 3 → ℕ}
    (inb : ∀ a, off a + (![1, 128, 512] : Fin 3 → ℕ) a ≤ S1x128x4096.size a) {n : ℕ} (hoff : off = ![0, 0, n]) (d : Fin 128) (c : Fin 512) (k : Fin 4096) (hk : k.val = n + c.val) :
    v.readAt (Elt Ideal) (Rect.unit (s := S1x128x4096) off ![1, 128, 512] inb).toLoadRect f (ix3 0 d c) = v.read (Elt Ideal) f (ix3 0 d k) := by
  subst hoff
  rw [View.readAt_apply]
  refine congrArg _ ?_
  funext a
  apply Fin.ext
  match a with
  | 0 => rfl
  | 1 => show 0 + 1 * d.val = d.val; omega
  | 2 => show n + 1 * c.val = k.val; omega

/-- A load of a tile of the values beside their ones. -/
theorem rd_vx {sig : RefSig} {κ : Kind} {sp : Space} (v : View sig κ sp S1x4096x256 .bf16) (f : v.ty.Contents (Elt Ideal)) {off : Fin 3 → ℕ}
    (inb : ∀ a, off a + (![1, 512, 256] : Fin 3 → ℕ) a ≤ S1x4096x256.size a) {n : ℕ} (hoff : off = ![0, n, 0]) (c : Fin 512) (j : Fin 256) (k : Fin 4096) (hk : k.val = n + c.val) :
    v.readAt (Elt Ideal) (Rect.unit (s := S1x4096x256) off ![1, 512, 256] inb).toLoadRect f (ix3 0 c j) = v.read (Elt Ideal) f (ix3 0 k j) := by
  subst hoff
  rw [View.readAt_apply]
  refine congrArg _ ?_
  funext a
  apply Fin.ext
  match a with
  | 0 => rfl
  | 1 => show n + 1 * c.val = k.val; omega
  | 2 => show 0 + 1 * j.val = j.val; omega

/-- A load of a tile of the gates. -/
theorem rd_nc {sig : RefSig} {κ : Kind} {sp : Space} (v : View sig κ sp S1x1x1x4096 .f32) (f : v.ty.Contents (Elt Ideal)) {off : Fin 4 → ℕ}
    (inb : ∀ a, off a + (![1, 1, 1, 512] : Fin 4 → ℕ) a ≤ S1x1x1x4096.size a) {n : ℕ} (hoff : off = ![0, 0, 0, n]) (c : Fin 512) (k : Fin 4096) (hk : k.val = n + c.val) :
    v.readAt (Elt Ideal) (Rect.unit (s := S1x1x1x4096) off ![1, 1, 1, 512] inb).toLoadRect f (ix4 0 0 0 c) = v.read (Elt Ideal) f (ix4 0 0 0 k) := by
  subst hoff
  rw [View.readAt_apply]
  refine congrArg _ ?_
  funext a
  apply Fin.ext
  match a with
  | 0 => rfl
  | 1 => rfl
  | 2 => rfl
  | 3 => show n + 1 * c.val = k.val; omega

/-- The scratch's pieces hold, for every row of the query block, the maximum and the weighted sums of the row's first `n`
    keys. -/
structure Good (t : ℕ → ℕ → EReal) (W : ℕ → Fin 256 → EReal) (n : ℕ) (Lm : List (View.Piece (Elt Ideal) S1x2048x128 .f32))
    (La : List (View.Piece (Elt Ideal) S1x2048x256 .f32)) : Prop where
  m : ∀ (i : Fin 2048) (l : Fin 128), @Eq EReal (View.canon Lm (ix3 0 i l)) (mx (t i.val) n)
  a : ∀ (i : Fin 2048) (j : Fin 256), @Eq EReal (View.canon La (ix3 0 i j)) (ac (t i.val) (fun k => W k j) n)

/-- The causal scores after the row's own key are −∞. -/
theorem T_bot (o : ℕ) (Q K : ℕ → Fin 128 → EReal) (NC : ℕ → EReal) {i k : ℕ} (h : o + i < k) : T o Q K NC i k = ⊥ := by
  unfold T
  rw [if_neg (by omega)]

/-- The stores of a tile of keys wholly before the query block. -/
theorem step_full (o n : ℕ) (Q K : ℕ → Fin 128 → EReal) (NC : ℕ → EReal) (W : ℕ → Fin 256 → EReal) (ht : ∀ i k, T o Q K NC i k ≠ ⊤) (hno : n + 512 ≤ o)
    {Lm : List (View.Piece (Elt Ideal) S1x2048x128 .f32)} {La : List (View.Piece (Elt Ideal) S1x2048x256 .f32)} (G : Good (T o Q K NC) W n Lm La)
    (inbm : ∀ a, (![0, 0, 0] : Fin 3 → ℕ) a + (![1, 2048, 128] : Fin 3 → ℕ) a ≤ S1x2048x128.size a) (inba : ∀ a, (![0, 0, 0] : Fin 3 → ℕ) a + (![1, 2048, 256] : Fin 3 → ℕ) a ≤ S1x2048x256.size a)
    (q : FVec Ideal S1x2048x128 .bf16) (kt : FVec Ideal S1x128x512 .bf16) (nc : FVec Ideal S1x1x1x512 .f32) (m : FVec Ideal S1x2048x128 .f32)
    (vx : FVec Ideal S1x512x256 .bf16) (a : FVec Ideal S1x2048x256 .f32)
    (hq : ∀ (i : Fin 2048) (d : Fin 128), q (ix3 0 i d) = Q (i.val) d) (hk : ∀ (d : Fin 128) (c : Fin 512), kt (ix3 0 d c) = K (n + c.val) d)
    (hn : ∀ c : Fin 512, nc (ix4 0 0 0 c) = NC (n + c.val)) (hv : ∀ (c : Fin 512) (j : Fin 256), vx (ix3 0 c j) = W (n + c.val) j)
    (hm : ∀ (i : Fin 2048) (l : Fin 128), m (ix3 0 i l) = View.canon Lm (ix3 0 (i : Fin 2048) l))
    (ha : ∀ (i : Fin 2048) (j : Fin 256), a (ix3 0 i j) = View.canon La (ix3 0 (i : Fin 2048) j)) :
    Good (T o Q K NC) W (n + 512) (⟨Rect.unit (s := S1x2048x128) ![0, 0, 0] ![1, 2048, 128] inbm, k0_pay35 (F := Ideal) (k0_pay19 q kt nc m)⟩ :: Lm)
      (⟨Rect.unit (s := S1x2048x256) ![0, 0, 0] ![1, 2048, 256] inba, k0_pay34 (F := Ideal) (k0_pay20 q kt nc m) (k0_pay21 q kt nc m vx) a⟩ :: La) := by
  have hs := s_full o n Q K NC hno q kt nc hq hk hn
  have hm' : ∀ (i : Fin 2048) (l : Fin 128), m (ix3 0 i l) = mx (T o Q K NC (i.val)) n := fun i l => (hm i l).trans (G.m _ l)
  have ha' : ∀ (i : Fin 2048) (j : Fin 256), a (ix3 0 i j) = ac (T o Q K NC (i.val)) (fun k => W k j) n := fun i j => (ha i j).trans (G.a _ j)
  refine ⟨fun i l => ?_, fun i j => ?_⟩
  · exact (canon_in inbm _ Lm i i (Nat.zero_add _).symm l).trans (mst_full n (T o Q K NC) q kt nc m hs hm' i l)
  · exact (canon_in inba _ La i i (Nat.zero_add _).symm j).trans (a_full n (T o Q K NC) W ht q kt nc m vx a hs hm' hv ha' i j)

/-- The stores of the block's first tile of its own keys. -/
theorem step_d0 (o  : ℕ) (Q K : ℕ → Fin 128 → EReal) (NC : ℕ → EReal) (W : ℕ → Fin 256 → EReal) (ht : ∀ i k, T o Q K NC i k ≠ ⊤)
    {Lm : List (View.Piece (Elt Ideal) S1x2048x128 .f32)} {La : List (View.Piece (Elt Ideal) S1x2048x256 .f32)} (G : Good (T o Q K NC) W o Lm La)
    (inbm : ∀ a, (![0, 0, 0] : Fin 3 → ℕ) a + (![1, 2048, 128] : Fin 3 → ℕ) a ≤ S1x2048x128.size a) (inba : ∀ a, (![0, 0, 0] : Fin 3 → ℕ) a + (![1, 2048, 256] : Fin 3 → ℕ) a ≤ S1x2048x256.size a)
    (q : FVec Ideal S1x2048x128 .bf16) (kt : FVec Ideal S1x128x512 .bf16) (nc : FVec Ideal S1x1x1x512 .f32) (m : FVec Ideal S1x2048x128 .f32)
    (vx : FVec Ideal S1x512x256 .bf16) (a : FVec Ideal S1x2048x256 .f32)
    (hq : ∀ (i : Fin 2048) (d : Fin 128), q (ix3 0 i d) = Q (i.val) d) (hk : ∀ (d : Fin 128) (c : Fin 512), kt (ix3 0 d c) = K (o + c.val) d)
    (hn : ∀ c : Fin 512, nc (ix4 0 0 0 c) = NC (o + c.val)) (hv : ∀ (c : Fin 512) (j : Fin 256), vx (ix3 0 c j) = W (o + c.val) j)
    (hm : ∀ (i : Fin 2048) (l : Fin 128), m (ix3 0 i l) = View.canon Lm (ix3 0 (i : Fin 2048) l))
    (ha : ∀ (i : Fin 2048) (j : Fin 256), a (ix3 0 i j) = View.canon La (ix3 0 (i : Fin 2048) j)) :
    Good (T o Q K NC) W (o + 512) (⟨Rect.unit (s := S1x2048x128) ![0, 0, 0] ![1, 2048, 128] inbm, k0_pay44 (F := Ideal) (k0_pay40 q kt nc m)⟩ :: Lm)
      (⟨Rect.unit (s := S1x2048x256) ![0, 0, 0] ![1, 2048, 256] inba, k0_pay43 (F := Ideal) (k0_pay41 q kt nc m) (k0_pay42 q kt nc m) vx a⟩ :: La) := by
  have hs := s_d0 o Q K NC q kt nc hq hk hn
  have hm' : ∀ (i : Fin 2048) (l : Fin 128), m (ix3 0 i l) = mx (T o Q K NC (i.val)) o := fun i l => (hm i l).trans (G.m _ l)
  have ha' : ∀ (i : Fin 2048) (j : Fin 256), a (ix3 0 i j) = ac (T o Q K NC (i.val)) (fun k => W k j) o := fun i j => (ha i j).trans (G.a _ j)
  refine ⟨fun i l => ?_, fun i j => ?_⟩
  · exact (canon_in inbm _ Lm i i (Nat.zero_add _).symm l).trans (mst_d0 o (T o Q K NC) q kt nc m hs hm' i l)
  · exact (canon_in inba _ La i i (Nat.zero_add _).symm j).trans (a_d0 o (T o Q K NC) W ht q kt nc m vx a hs hm' hv ha' i j)

/-- The stores of the block's second tile of its own keys. -/
theorem step_d1 (o  : ℕ) (Q K : ℕ → Fin 128 → EReal) (NC : ℕ → EReal) (W : ℕ → Fin 256 → EReal) (ht : ∀ i k, T o Q K NC i k ≠ ⊤)
    {Lm : List (View.Piece (Elt Ideal) S1x2048x128 .f32)} {La : List (View.Piece (Elt Ideal) S1x2048x256 .f32)} (G : Good (T o Q K NC) W (o + 512) Lm La)
    (inbm : ∀ a, (![0, 512, 0] : Fin 3 → ℕ) a + (![1, 1536, 128] : Fin 3 → ℕ) a ≤ S1x2048x128.size a) (inba : ∀ a, (![0, 512, 0] : Fin 3 → ℕ) a + (![1, 1536, 256] : Fin 3 → ℕ) a ≤ S1x2048x256.size a)
    (q : FVec Ideal S1x1536x128 .bf16) (kt : FVec Ideal S1x128x512 .bf16) (nc : FVec Ideal S1x1x1x512 .f32) (m : FVec Ideal S1x1536x128 .f32)
    (vx : FVec Ideal S1x512x256 .bf16) (a : FVec Ideal S1x1536x256 .f32)
    (hq : ∀ (i : Fin 1536) (d : Fin 128), q (ix3 0 i d) = Q (512 + i.val) d) (hk : ∀ (d : Fin 128) (c : Fin 512), kt (ix3 0 d c) = K ((o + 512) + c.val) d)
    (hn : ∀ c : Fin 512, nc (ix4 0 0 0 c) = NC ((o + 512) + c.val)) (hv : ∀ (c : Fin 512) (j : Fin 256), vx (ix3 0 c j) = W ((o + 512) + c.val) j)
    (hm : ∀ (i : Fin 1536) (l : Fin 128), m (ix3 0 i l) = View.canon Lm (ix3 0 (⟨512 + i.val, by omega⟩ : Fin 2048) l))
    (ha : ∀ (i : Fin 1536) (j : Fin 256), a (ix3 0 i j) = View.canon La (ix3 0 (⟨512 + i.val, by omega⟩ : Fin 2048) j)) :
    Good (T o Q K NC) W (o + 1024) (⟨Rect.unit (s := S1x2048x128) ![0, 512, 0] ![1, 1536, 128] inbm, k0_pay49 (F := Ideal) (k0_pay45 q kt nc) m⟩ :: Lm)
      (⟨Rect.unit (s := S1x2048x256) ![0, 512, 0] ![1, 1536, 256] inba, k0_pay48 (F := Ideal) (k0_pay45 q kt nc) m vx a⟩ :: La) := by
  have hs := s_d1 o Q K NC q kt nc hq hk hn
  have hm' : ∀ (i : Fin 1536) (l : Fin 128), m (ix3 0 i l) = mx (T o Q K NC (512 + i.val)) (o + 512) := fun i l => (hm i l).trans (G.m _ l)
  have ha' : ∀ (i : Fin 1536) (j : Fin 256), a (ix3 0 i j) = ac (T o Q K NC (512 + i.val)) (fun k => W k j) (o + 512) := fun i j => (ha i j).trans (G.a _ j)
  refine ⟨fun i l => ?_, fun i j => ?_⟩
  · by_cases hi : i.val < 512
    · refine (canon_out inbm _ Lm i hi l).trans ((G.m i l).trans ?_)
      exact (mx_skip (by omega) fun k hk => T_bot o Q K NC (by omega)).symm
    · have h := mst_d1 (o + 512) (T o Q K NC) (k0_pay45 (F := Ideal) q kt nc) m hs hm' ⟨i.val - 512, by omega⟩ l
      have e : 512 + (i.val - 512) = i.val := by omega
      simp only [e] at h
      exact (canon_in inbm _ Lm ⟨i.val - 512, by omega⟩ i e.symm l).trans h
  · by_cases hi : i.val < 512
    · refine (canon_out inba _ La i hi j).trans ((G.a i j).trans ?_)
      exact (ac_skip _ (by omega) fun k hk => T_bot o Q K NC (by omega)).symm
    · have h := a_d1 (o + 512) (T o Q K NC) W ht (k0_pay45 (F := Ideal) q kt nc) m vx a hs hm' hv ha' ⟨i.val - 512, by omega⟩ j
      have e : 512 + (i.val - 512) = i.val := by omega
      simp only [e] at h
      exact (canon_in inba _ La ⟨i.val - 512, by omega⟩ i e.symm j).trans h

/-- The stores of the block's third tile of its own keys. -/
theorem step_d2 (o  : ℕ) (Q K : ℕ → Fin 128 → EReal) (NC : ℕ → EReal) (W : ℕ → Fin 256 → EReal) (ht : ∀ i k, T o Q K NC i k ≠ ⊤)
    {Lm : List (View.Piece (Elt Ideal) S1x2048x128 .f32)} {La : List (View.Piece (Elt Ideal) S1x2048x256 .f32)} (G : Good (T o Q K NC) W (o + 1024) Lm La)
    (inbm : ∀ a, (![0, 1024, 0] : Fin 3 → ℕ) a + (![1, 1024, 128] : Fin 3 → ℕ) a ≤ S1x2048x128.size a) (inba : ∀ a, (![0, 1024, 0] : Fin 3 → ℕ) a + (![1, 1024, 256] : Fin 3 → ℕ) a ≤ S1x2048x256.size a)
    (q : FVec Ideal S1x1024x128 .bf16) (kt : FVec Ideal S1x128x512 .bf16) (nc : FVec Ideal S1x1x1x512 .f32) (m : FVec Ideal S1x1024x128 .f32)
    (vx : FVec Ideal S1x512x256 .bf16) (a : FVec Ideal S1x1024x256 .f32)
    (hq : ∀ (i : Fin 1024) (d : Fin 128), q (ix3 0 i d) = Q (1024 + i.val) d) (hk : ∀ (d : Fin 128) (c : Fin 512), kt (ix3 0 d c) = K ((o + 1024) + c.val) d)
    (hn : ∀ c : Fin 512, nc (ix4 0 0 0 c) = NC ((o + 1024) + c.val)) (hv : ∀ (c : Fin 512) (j : Fin 256), vx (ix3 0 c j) = W ((o + 1024) + c.val) j)
    (hm : ∀ (i : Fin 1024) (l : Fin 128), m (ix3 0 i l) = View.canon Lm (ix3 0 (⟨1024 + i.val, by omega⟩ : Fin 2048) l))
    (ha : ∀ (i : Fin 1024) (j : Fin 256), a (ix3 0 i j) = View.canon La (ix3 0 (⟨1024 + i.val, by omega⟩ : Fin 2048) j)) :
    Good (T o Q K NC) W (o + 1536) (⟨Rect.unit (s := S1x2048x128) ![0, 1024, 0] ![1, 1024, 128] inbm, k0_pay57 (F := Ideal) (k0_pay52 q kt nc m)⟩ :: Lm)
      (⟨Rect.unit (s := S1x2048x256) ![0, 1024, 0] ![1, 1024, 256] inba, k0_pay56 (F := Ideal) (k0_pay53 q kt nc m) (k0_pay54 q kt nc m) (k0_pay55 vx) a⟩ :: La) := by
  have hs := s_d2 o Q K NC q kt nc hq hk hn
  have hm' : ∀ (i : Fin 1024) (l : Fin 128), m (ix3 0 i l) = mx (T o Q K NC (1024 + i.val)) (o + 1024) := fun i l => (hm i l).trans (G.m _ l)
  have ha' : ∀ (i : Fin 1024) (j : Fin 256), a (ix3 0 i j) = ac (T o Q K NC (1024 + i.val)) (fun k => W k j) (o + 1024) := fun i j => (ha i j).trans (G.a _ j)
  refine ⟨fun i l => ?_, fun i j => ?_⟩
  · by_cases hi : i.val < 1024
    · refine (canon_out inbm _ Lm i hi l).trans ((G.m i l).trans ?_)
      exact (mx_skip (by omega) fun k hk => T_bot o Q K NC (by omega)).symm
    · have h := mst_d2 (o + 1024) (T o Q K NC) q kt nc m hs hm' ⟨i.val - 1024, by omega⟩ l
      have e : 1024 + (i.val - 1024) = i.val := by omega
      simp only [e] at h
      exact (canon_in inbm _ Lm ⟨i.val - 1024, by omega⟩ i e.symm l).trans h
  · by_cases hi : i.val < 1024
    · refine (canon_out inba _ La i hi j).trans ((G.a i j).trans ?_)
      exact (ac_skip _ (by omega) fun k hk => T_bot o Q K NC (by omega)).symm
    · have h := a_d2 (o + 1024) (T o Q K NC) W ht q kt nc m vx a hs hm' hv ha' ⟨i.val - 1024, by omega⟩ j
      have e : 1024 + (i.val - 1024) = i.val := by omega
      simp only [e] at h
      exact (canon_in inba _ La ⟨i.val - 1024, by omega⟩ i e.symm j).trans h

/-- The stores of the block's last tile of its own keys. -/
theorem step_d3 (o  : ℕ) (Q K : ℕ → Fin 128 → EReal) (NC : ℕ → EReal) (W : ℕ → Fin 256 → EReal) (ht : ∀ i k, T o Q K NC i k ≠ ⊤)
    {Lm : List (View.Piece (Elt Ideal) S1x2048x128 .f32)} {La : List (View.Piece (Elt Ideal) S1x2048x256 .f32)} (G : Good (T o Q K NC) W (o + 1536) Lm La)
     (inba : ∀ a, (![0, 1536, 0] : Fin 3 → ℕ) a + (![1, 512, 256] : Fin 3 → ℕ) a ≤ S1x2048x256.size a)
    (q : FVec Ideal S1x512x128 .bf16) (kt : FVec Ideal S1x128x512 .bf16) (nc : FVec Ideal S1x1x1x512 .f32) (m : FVec Ideal S1x512x128 .f32)
    (vx : FVec Ideal S1x512x256 .bf16) (a : FVec Ideal S1x512x256 .f32)
    (hq : ∀ (i : Fin 512) (d : Fin 128), q (ix3 0 i d) = Q (1536 + i.val) d) (hk : ∀ (d : Fin 128) (c : Fin 512), kt (ix3 0 d c) = K ((o + 1536) + c.val) d)
    (hn : ∀ c : Fin 512, nc (ix4 0 0 0 c) = NC ((o + 1536) + c.val)) (hv : ∀ (c : Fin 512) (j : Fin 256), vx (ix3 0 c j) = W ((o + 1536) + c.val) j)
    (hm : ∀ (i : Fin 512) (l : Fin 128), m (ix3 0 i l) = View.canon Lm (ix3 0 (⟨1536 + i.val, by omega⟩ : Fin 2048) l))
    (ha : ∀ (i : Fin 512) (j : Fin 256), a (ix3 0 i j) = View.canon La (ix3 0 (⟨1536 + i.val, by omega⟩ : Fin 2048) j)) :
    ∀ (i : Fin 2048) (j : Fin 256), @Eq EReal (View.canon (⟨Rect.unit (s := S1x2048x256) ![0, 1536, 0] ![1, 512, 256] inba, k0_pay61 (F := Ideal) (k0_pay58 q kt nc) m vx a⟩ :: La) (ix3 0 i j)) (ac (T o Q K NC i.val) (fun k => W k j) (o + 2048)) := by
  have hs := s_d3 o Q K NC q kt nc hq hk hn
  have hm' : ∀ (i : Fin 512) (l : Fin 128), m (ix3 0 i l) = mx (T o Q K NC (1536 + i.val)) (o + 1536) := fun i l => (hm i l).trans (G.m _ l)
  have ha' : ∀ (i : Fin 512) (j : Fin 256), a (ix3 0 i j) = ac (T o Q K NC (1536 + i.val)) (fun k => W k j) (o + 1536) := fun i j => (ha i j).trans (G.a _ j)
  intro i j
  by_cases hi : i.val < 1536
  · refine (canon_out inba _ La i hi j).trans ((G.a i j).trans ?_)
    exact (ac_skip _ (by omega) fun k hk => T_bot o Q K NC (by omega)).symm
  · have h := a_d3 (o + 1536) (T o Q K NC) W ht (k0_pay58 (F := Ideal) q kt nc) m vx a hs hm' hv ha' ⟨i.val - 1536, by omega⟩ j
    have e : 1536 + (i.val - 1536) = i.val := by omega
    simp only [e] at h
    exact (canon_in inba _ La ⟨i.val - 1536, by omega⟩ i e.symm j).trans h

end Cert.KernelIdeal.Value
-- ==== Proof.FoxLoop.lean ====
/- The loop over the tiles of keys wholly before the query block: what its trips leave of the running maxima and sums. -/
module

public import proofs.«01_k».proof.Proof.FoxStep
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac)

/-- The byte-free offset of trip `n`: 512 keys to a trip. -/
theorem iv_toNat (n : ℕ) (h : n < 8) : (Scalar.indexCast (Scalar.muli (Scf.iv 0#32 1#32 n) 512#32)).toNat = 512 * n := by
  interval_cases n <;> rfl

/-- The grid's third coordinate is 0 or 1. -/
theorem i2_lt (i : grid0.Coords) : (i 2).val < 2 := (i 2).isLt

/-- The loop's trips: four for the second query block, none for the first. -/
theorem trips1 (i : grid0.Coords) : Scf.trips (k0_t1_loop i).lb (k0_t1_loop i).ub (k0_t1_loop i).st = 4 * (i 2).val := by
  have h := i2_lt i
  show Scf.trips 0#32 (Scalar.addi 0#32 (Scalar.muli (Scalar.divsi (Scalar.subi (Scalar.muli (BitVec.ofNat 32 (i 2).val) 4#32) 0#32) 1#32) 1#32)) 1#32 = _
  generalize (i 2).val = b at h ⊢
  interval_cases b <;> decide

/-- The second loop makes no trip. -/
theorem trips2 (i : grid0.Coords) : Scf.trips (k0_t2_loop i).lb (k0_t2_loop i).ub (k0_t2_loop i).st = 0 := by
  have h := i2_lt i
  show Scf.trips (Scalar.addi 0#32 (Scalar.muli (Scalar.divsi (Scalar.subi (Scalar.muli (BitVec.ofNat 32 (i 2).val) 4#32) 0#32) 1#32) 1#32)) (Scalar.addi 0#32 (Scalar.subi (Scalar.muli (BitVec.ofNat 32 (i 2).val) 4#32) 0#32)) 1#32 = _
  generalize (i 2).val = b at h ⊢
  interval_cases b <;> decide

/-- A trip is one of eight. -/
theorem trip_lt (i : grid0.Coords) (k : Fin (k0_t1_loop i).trips) : k.val < 8 := by
  have h1 : k.val < Scf.trips (k0_t1_loop i).lb (k0_t1_loop i).ub (k0_t1_loop i).st := k.isLt
  rw [trips1] at h1
  have := i2_lt i
  omega

/-- Where trip `k` loads its keys, -/
theorem off1_eq (i : grid0.Coords) (k : Fin (k0_t1_loop i).trips) : k0_off1 i k = ![0, 0, 512 * k.val] := by
  show ![0, 0, (Scalar.indexCast (Scalar.muli (Scf.iv 0#32 1#32 k.val) 512#32)).toNat] = _
  rw [iv_toNat _ (trip_lt i k)]

/-- its gates -/
theorem off2_eq (i : grid0.Coords) (k : Fin (k0_t1_loop i).trips) : k0_off2 i k = ![0, 0, 0, 512 * k.val] := by
  show ![0, 0, 0, (Scalar.indexCast (Scalar.muli (Scf.iv 0#32 1#32 k.val) 512#32)).toNat] = _
  rw [iv_toNat _ (trip_lt i k)]

/-- and its values. -/
theorem off3_eq (i : grid0.Coords) (k : Fin (k0_t1_loop i).trips) : k0_off3 i k = ![0, 512 * k.val, 0] := by
  show ![0, (Scalar.indexCast (Scalar.muli (Scf.iv 0#32 1#32 k.val) 512#32)).toNat, 0] = _
  rw [iv_toNat _ (trip_lt i k)]

/-- The offset of the query block's own tile `r`. -/
theorem blk_toNat (b r : ℕ) (hb : b < 2) (hr : r < 4) :
    (Scalar.indexCast (Scalar.muli (Scalar.addi (Scalar.muli (BitVec.ofNat 32 b) 4#32) (BitVec.ofNat 32 r)) 512#32)).toNat = 2048 * b + 512 * r := by
  interval_cases b <;> interval_cases r <;> rfl

/-- Where the block's own tile `r` loads its keys, -/
theorem off7_eq (i : grid0.Coords) (r : ℕ) (hr : r < 4) : k0_off7 i (BitVec.ofNat 32 r) = ![0, 0, 2048 * (i 2).val + 512 * r] := by
  show ![0, 0, (Scalar.indexCast (Scalar.muli (Scalar.addi (Scalar.muli (BitVec.ofNat 32 (i 2).val) 4#32) (BitVec.ofNat 32 r)) 512#32)).toNat] = _
  rw [blk_toNat _ r (i2_lt i) hr]

/-- its gates -/
theorem off8_eq (i : grid0.Coords) (r : ℕ) (hr : r < 4) : k0_off8 i (BitVec.ofNat 32 r) = ![0, 0, 0, 2048 * (i 2).val + 512 * r] := by
  show ![0, 0, 0, (Scalar.indexCast (Scalar.muli (Scalar.addi (Scalar.muli (BitVec.ofNat 32 (i 2).val) 4#32) (BitVec.ofNat 32 r)) 512#32)).toNat] = _
  rw [blk_toNat _ r (i2_lt i) hr]

/-- and its values. -/
theorem off9_eq (i : grid0.Coords) (r : ℕ) (hr : r < 4) : k0_off9 i (BitVec.ofNat 32 r) = ![0, 2048 * (i 2).val + 512 * r, 0] := by
  show ![0, (Scalar.indexCast (Scalar.muli (Scalar.addi (Scalar.muli (BitVec.ofNat 32 (i 2).val) 4#32) (BitVec.ofNat 32 r)) 512#32)).toNat, 0] = _
  rw [blk_toNat _ r (i2_lt i) hr]

/-- A load of the whole block reads it. -/
theorem rd_blk {e : EltTy} {sig : RefSig} {κ : Kind} {sp : Space} {W : ℕ} (v : View sig κ sp (⟨3, ![1, 2048, W]⟩ : Shape) e) (f : v.ty.Contents (Elt Ideal))
    (inb : ∀ a, (![0, 0, 0] : Fin 3 → ℕ) a + (![1, 2048, W] : Fin 3 → ℕ) a ≤ (⟨3, ![1, 2048, W]⟩ : Shape).size a) (i : Fin 2048) (l : Fin W) :
    v.readAt (Elt Ideal) (Rect.unit (s := ⟨3, ![1, 2048, W]⟩) ![0, 0, 0] ![1, 2048, W] inb).toLoadRect f (ix3 0 i l) = v.read (Elt Ideal) f (ix3 0 i l) := by
  rw [View.readAt_apply]
  refine congrArg _ ?_
  funext a
  apply Fin.ext
  match a with
  | 0 => rfl
  | 1 => show 0 + 1 * i.val = i.val; omega
  | 2 => show 0 + 1 * l.val = l.val; omega

set_option maxHeartbeats 1000000 in
/-- After `k` trips the scratch holds the maxima and sums of the first `512 k` keys. -/
theorem loop_good (o : ℕ) (Q K : ℕ → Fin 128 → EReal) (NC : ℕ → EReal) (W : ℕ → Fin 256 → EReal) (ht : ∀ i k, T o Q K NC i k ≠ ⊤) (ho : o ≤ 4096)
    (c : Dev nD) (i : grid0.Coords) (arg3 : Memref sig .tc .vmem S1x2048x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x1x4096 .f32) (harg6 : arg6.IsWhole) (arg7 : Memref sig .tc .vmem S1x2048x128 .bf16) (harg7 : arg7.IsWhole) (arg8 : Memref sig .tc .vmem S1x128x4096 .bf16) (harg8 : arg8.IsWhole) (arg9 : Memref sig .tc .vmem S1x4096x256 .bf16) (harg9 : arg9.IsWhole) (arg10 : Memref sig .tc .vmem S1x2048x128 .bf16) (harg10 : arg10.IsWhole) (arg11 : Memref sig .tc .vmem S1x2048x128 .f32) (harg11 : arg11.IsWhole) (arg12 : Memref sig .tc .vmem S1x2048x256 .f32) (harg12 : arg12.IsWhole)
    (X6 : arg6.view.ty.Contents (Elt Ideal)) (X8 : arg8.view.ty.Contents (Elt Ideal)) (X9 : arg9.view.ty.Contents (Elt Ideal)) (X10 : arg10.view.ty.Contents (Elt Ideal))
    (hX10 : ∀ (j : Fin 2048) (d : Fin 128), @Eq EReal (arg10.view.read (Elt Ideal) X10 (ix3 0 j d)) (Q j.val d))
    (hX8 : ∀ (d : Fin 128) (k : Fin 4096), @Eq EReal (arg8.view.read (Elt Ideal) X8 (ix3 0 d k)) (K k.val d))
    (hX6 : ∀ k : Fin 4096, @Eq EReal (arg6.view.read (Elt Ideal) X6 (ix4 0 0 0 k)) (NC k.val))
    (hX9 : ∀ (k : Fin 4096) (j : Fin 256), @Eq EReal (arg9.view.read (Elt Ideal) X9 (ix3 0 k j)) (W k.val j))
    (Lm : List (View.Piece (Elt Ideal) S1x2048x128 .f32)) (La : List (View.Piece (Elt Ideal) S1x2048x256 .f32)) (G : Good (T o Q K NC) W 0 Lm La) :
    ∀ k : ℕ, k ≤ (k0_t1_loop i).trips → 512 * k ≤ o →
      Good (T o Q K NC) W (512 * k) ((pb_k0_t1 (F := Ideal) Variants.none c none i arg3 harg3 arg4 harg4 arg5 harg5 arg6 harg6 arg7 harg7 arg8 harg8 arg9 harg9 arg10 harg10 arg11 harg11 arg12 harg12 X6 X8 X9 X10 (arg11.view.writes (Elt Ideal) arg11.view.junk Lm) (arg12.view.writes (Elt Ideal) arg12.view.junk La) k).1 ++ Lm)
        ((pb_k0_t1 (F := Ideal) Variants.none c none i arg3 harg3 arg4 harg4 arg5 harg5 arg6 harg6 arg7 harg7 arg8 harg8 arg9 harg9 arg10 harg10 arg11 harg11 arg12 harg12 X6 X8 X9 X10 (arg11.view.writes (Elt Ideal) arg11.view.junk Lm) (arg12.view.writes (Elt Ideal) arg12.view.junk La) k).2 ++ La)
  | 0, _, _ => G
  | k + 1, hk, hko => by
    have ih := loop_good o Q K NC W ht ho c i arg3 harg3 arg4 harg4 arg5 harg5 arg6 harg6 arg7 harg7 arg8 harg8 arg9 harg9 arg10 harg10 arg11 harg11 arg12 harg12 X6 X8 X9 X10 hX10 hX8 hX6 hX9 Lm La G k (by omega) (by omega)
    rw [pb_k0_t1_succ (F := Ideal) Variants.none c none i arg3 harg3 arg4 harg4 arg5 harg5 arg6 harg6 arg7 harg7 arg8 harg8 arg9 harg9 arg10 harg10 arg11 harg11 arg12 harg12 X6 X8 X9 X10 _ _ ⟨k, hk⟩]
    dsimp only
    rw [← View.writes_append, ← View.writes_append]
    generalize (pb_k0_t1 (F := Ideal) Variants.none c none i arg3 harg3 arg4 harg4 arg5 harg5 arg6 harg6 arg7 harg7 arg8 harg8 arg9 harg9 arg10 harg10 arg11 harg11 arg12 harg12 X6 X8 X9 X10 (arg11.view.writes (Elt Ideal) arg11.view.junk Lm) (arg12.view.writes (Elt Ideal) arg12.view.junk La) k) = P at ih ⊢
    unfold trip_k0_t1
    dsimp only
    unfold trip_k0_t1.sl.r trip_k0_t1.sl.r_1 trip_k0_t1.sl.r_2
    refine step_full o (512 * k) Q K NC W ht (by omega) ih _ _ _ _ _ _ _ _ ?_ ?_ ?_ ?_ ?_ ?_
    · exact fun j d => (rd_blk arg10.view X10 _ j d).trans (hX10 j d)
    · exact fun d j => (rd_kt arg8.view X8 _ (off1_eq i ⟨k, hk⟩) d j ⟨512 * k + j.val, by omega⟩ rfl).trans (hX8 d _)
    · exact fun j => (rd_nc arg6.view X6 _ (off2_eq i ⟨k, hk⟩) j ⟨512 * k + j.val, by omega⟩ rfl).trans (hX6 _)
    · exact fun j d => (rd_vx arg9.view X9 _ (off3_eq i ⟨k, hk⟩) j d ⟨512 * k + j.val, by omega⟩ rfl).trans (hX9 _ d)
    · exact fun j l => (rd_blk arg11.view _ _ j l).trans (by rw [View.read_writes_junk_eq_canon])
    · exact fun j l => (rd_blk arg12.view _ _ j l).trans (by rw [View.read_writes_junk_eq_canon])

end Cert.KernelIdeal.Value
-- ==== Proof.FoxRun.lean ====
/- One query block through the whole body: its tiles in order, from the cleared scratch to the stored quotient. -/
module

public import proofs.«01_k».proof.Proof.FoxLoop

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_zero ac_zero)

/-- The maxima start at −∞. -/
theorem pay32_at (i : Fin 2048) (l : Fin 128) : k0_pay32 (F := Ideal) (ix3 0 i l) = ⊥ := by
  pointwise [k0_pay32]
  first | rfl | exact mask_eq | (rw [mask_eq]) | exact bot_eq

/-- The sums start at 0. -/
theorem pay33_at (i : Fin 2048) (j : Fin 256) : k0_pay33 (F := Ideal) (ix3 0 i j) = 0 := by
  pointwise [k0_pay33]

/-- What is stored of a query block: the sums of the values over the sums of the ones. -/
theorem pay1_at (x y : FVec Ideal S1x2048x128 .f32) (i : Fin 2048) (d : Fin 128) :
    k0_pay1 (F := Ideal) (k0_pay63 x) y (ix3 0 i d) = Ideal.div (x (ix3 0 i d)) (y (ix3 0 i d)) := by
  pointwise [k0_pay1, k0_pay63]

/-- A piece over the whole block is the block. -/
theorem canon_one {e : EltTy} {W : ℕ} (inb : ∀ a, (![0, 0, 0] : Fin 3 → ℕ) a + (![1, 2048, W] : Fin 3 → ℕ) a ≤ (⟨3, ![1, 2048, W]⟩ : Shape).size a)
    (w : (Rect.unit (s := ⟨3, ![1, 2048, W]⟩) ![0, 0, 0] ![1, 2048, W] inb).shape.Idx → Elt Ideal e) (L : List (View.Piece (Elt Ideal) ⟨3, ![1, 2048, W]⟩ e)) (i : Fin 2048) (l : Fin W) :
    View.canon (⟨Rect.unit ![0, 0, 0] ![1, 2048, W] inb, w⟩ :: L) (ix3 0 i l) = w (ix3 0 i l) :=
  canon_in inb w L i i (Nat.zero_add _).symm l

/-- A load of columns `co …` of every row of the scratch reads the canon there. -/
theorem rd_cols {sig : RefSig} {κ : Kind} {sp : Space} {co : ℕ} (v : View sig κ sp S1x2048x256 .f32)
    (inb : ∀ a, (![0, 0, co] : Fin 3 → ℕ) a + (![1, 2048, 128] : Fin 3 → ℕ) a ≤ S1x2048x256.size a)
    (L : List (View.Piece (Elt Ideal) S1x2048x256 .f32)) (i : Fin 2048) (d : Fin 128) (d' : Fin 256) (hd : d'.val = co + d.val) :
    v.readCov L (Rect.unit (s := S1x2048x256) ![0, 0, co] ![1, 2048, 128] inb).toLoadRect (ix3 0 i d) = View.canon L (ix3 0 i d') := by
  rw [View.readCov_eq_canon']
  refine congrArg _ ?_
  funext a
  apply Fin.ext
  match a with
  | 0 => rfl
  | 1 => show 0 + 1 * i.val = i.val; omega
  | 2 => show co + 1 * d.val = d'.val; omega

set_option maxHeartbeats 2000000 in
/-- The first query block of a head: after its last tile the scratch holds, for every row, the weighted sums over all the keys it sees. -/
theorem acc_A (Q K : ℕ → Fin 128 → EReal) (NC : ℕ → EReal) (W : ℕ → Fin 256 → EReal)
    (c : Dev nD) (i : grid0.Coords) (ht : ∀ j k, T (2048 * (i 2).val) Q K NC j k ≠ ⊤) (arg3 : Memref sig .tc .vmem S1x2048x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x1x4096 .f32) (harg6 : arg6.IsWhole) (arg7 : Memref sig .tc .vmem S1x2048x128 .bf16) (harg7 : arg7.IsWhole) (arg8 : Memref sig .tc .vmem S1x128x4096 .bf16) (harg8 : arg8.IsWhole) (arg9 : Memref sig .tc .vmem S1x4096x256 .bf16) (harg9 : arg9.IsWhole) (arg10 : Memref sig .tc .vmem S1x2048x128 .bf16) (harg10 : arg10.IsWhole) (arg11 : Memref sig .tc .vmem S1x2048x128 .f32) (harg11 : arg11.IsWhole) (arg12 : Memref sig .tc .vmem S1x2048x256 .f32) (harg12 : arg12.IsWhole)
    (x0 : Vec Ideal S1x2048x128 .f32) (x1 x2 : Vec Ideal S1x4096x128 .f32) (x3 : Vec Ideal S1x1x1x4096 .f32)
    (hQ : ∀ (j : Fin 2048) (d : Fin 128), k0_pay31 (F := Ideal) x0 (ix3 0 j d) = Q j.val d)
    (hK : ∀ (d : Fin 128) (k : Fin 4096), @Eq EReal (View.canon (kernelRun0_A.sl.HS0_8 (F := Ideal) c arg4 harg4 x1) (ix3 0 d k)) (K k.val d))
    (hN : ∀ k : Fin 4096, @Eq EReal (x3 (ix4 0 0 0 k)) (NC k.val))
    (hV : ∀ (k : Fin 4096) (j : Fin 256), @Eq EReal (View.canon (kernelRun0_A.sl.HS1_9 (F := Ideal) c arg5 harg5 x2) (ix3 0 k j)) (W k.val j)) :
    ∀ (j : Fin 2048) (l : Fin 256), @Eq EReal (View.canon (kernelRun0_A.sl.HS4_4 (F := Ideal) c i arg3 harg3 arg4 harg4 arg5 harg5 arg6 harg6 arg7 harg7 arg8 harg8 arg9 harg9 arg10 harg10 arg11 harg11 arg12 harg12 x0 x1 x2 x3) (ix3 0 j l)) (ac (T (2048 * (i 2).val) Q K NC j.val) (fun k => W k l) (2048 * (i 2).val + 2048)) := by
  have hi := i2_lt i
  have hq2 : ∀ (j : Fin 2048) (d : Fin 128), @Eq EReal (View.canon (kernelRun0_A.sl.HS2_1 (F := Ideal) c arg3 harg3 x0) (ix3 0 j d)) (Q j.val d) := by
    intro j d
    unfold kernelRun0_A.sl.HS2_1
    refine (canon_one _ _ _ j d).trans ?_
    have e : View.readAt (Elt Ideal) arg3.view (Rect.unit (s := S1x2048x128) ![0, 0, 0] S1x2048x128.size inb_S1x2048x128_S1x2048x128_0_0_0).toLoadRect (harg3.unread x0) = x0 := by
      funext y
      idx_vars y
      match y0 with
      | 0 => exact (rd_blk arg3.view _ _ _ _).trans (congrFun (harg3.read_unread x0) _)
    rw [e]
    exact hQ j d
  have h8 : ∀ (d : Fin 128) (k : Fin 4096), @Eq EReal (arg8.view.read (Elt Ideal) (arg8.view.writes (Elt Ideal) arg8.view.junk (kernelRun0_A.sl.HS0_8 (F := Ideal) c arg4 harg4 x1)) (ix3 0 d k)) (K k.val d) := fun d k => by rw [View.read_writes_junk_eq_canon]; exact hK d k
  have h9 : ∀ (k : Fin 4096) (j : Fin 256), @Eq EReal (arg9.view.read (Elt Ideal) (arg9.view.writes (Elt Ideal) arg9.view.junk (kernelRun0_A.sl.HS1_9 (F := Ideal) c arg5 harg5 x2)) (ix3 0 k j)) (W k.val j) := fun k j => by rw [View.read_writes_junk_eq_canon]; exact hV k j
  have h6 : ∀ k : Fin 4096, @Eq EReal (arg6.view.read (Elt Ideal) (harg6.unread x3) (ix4 0 0 0 k)) (NC k.val) := fun k => (congrFun (harg6.read_unread x3) _).trans (hN k)
  have h10 : ∀ (j : Fin 2048) (d : Fin 128), @Eq EReal (arg10.view.read (Elt Ideal) (arg10.view.writes (Elt Ideal) arg10.view.junk (kernelRun0_A.sl.HS2_1 (F := Ideal) c arg3 harg3 x0)) (ix3 0 j d)) (Q j.val d) := fun j d => by
    rw [View.read_writes_junk_eq_canon]; exact hq2 j d
  have Gz : Good (T (2048 * (i 2).val) Q K NC) W 0 (kernelRun0_A.sl.HS3_1 (F := Ideal)) (kernelRun0_A.sl.HS4_1 (F := Ideal)) := by
    unfold kernelRun0_A.sl.HS3_1 kernelRun0_A.sl.HS4_1
    refine ⟨fun j l => ?_, fun j l => ?_⟩
    · exact (canon_one _ _ _ j l).trans ((pay32_at j l).trans (mx_zero _).symm)
    · exact (canon_one _ _ _ j l).trans ((pay33_at j l).trans (ac_zero _ _).symm)
  have G0 := loop_good (2048 * (i 2).val) Q K NC W ht (by omega) c i arg3 harg3 arg4 harg4 arg5 harg5 arg6 harg6 arg7 harg7 arg8 harg8 arg9 harg9 arg10 harg10 arg11 harg11 arg12 harg12 (harg6.unread x3) (arg8.view.writes (Elt Ideal) arg8.view.junk (kernelRun0_A.sl.HS0_8 (F := Ideal) c arg4 harg4 x1)) (arg9.view.writes (Elt Ideal) arg9.view.junk (kernelRun0_A.sl.HS1_9 (F := Ideal) c arg5 harg5 x2)) (arg10.view.writes (Elt Ideal) arg10.view.junk (kernelRun0_A.sl.HS2_1 (F := Ideal) c arg3 harg3 x0)) h10 h8 h6 h9 _ _ Gz
    (Scf.trips (k0_t1_loop i).lb (k0_t1_loop i).ub (k0_t1_loop i).st) le_rfl (by rw [trips1]; omega)
  have e4 : 512 * Scf.trips (k0_t1_loop i).lb (k0_t1_loop i).ub (k0_t1_loop i).st = 2048 * (i 2).val := by rw [trips1]; omega
  rw [e4] at G0
  have G1 : Good (T (2048 * (i 2).val) Q K NC) W (2048 * (i 2).val + 512) (kernelRun0_A.sl.HS3_1_1 (F := Ideal) c i arg3 harg3 arg4 harg4 arg5 harg5 arg6 harg6 arg7 harg7 arg8 harg8 arg9 harg9 arg10 harg10 arg11 harg11 arg12 harg12 x0 x1 x2 x3) (kernelRun0_A.sl.HS4_1_1 (F := Ideal) c i arg3 harg3 arg4 harg4 arg5 harg5 arg6 harg6 arg7 harg7 arg8 harg8 arg9 harg9 arg10 harg10 arg11 harg11 arg12 harg12 x0 x1 x2 x3) := by
    unfold kernelRun0_A.sl.HS3_1_1 kernelRun0_A.sl.HS4_1_1 kernelRun0_A.sl.r_1 kernelRun0_A.sl.r_2 kernelRun0_A.sl.r_3 kernelRun0_A.sl.v46 kernelRun0_A.sl.v73 kernelRun0_A.sl.v28
    rw [trips2]
    simp only [pb_k0_t2.eq_1, List.nil_append]
    refine step_d0 (2048 * (i 2).val) Q K NC W ht G0 _ _ _ _ _ _ _ _ ?_ ?_ ?_ ?_ ?_ ?_
    · exact fun j d => (rd_rows arg10.view _ _ j j (Nat.zero_add _).symm d d rfl).trans (hq2 _ d)
    · exact fun d j => (rd_kt arg8.view _ _ (off7_eq i 0 (by decide)) d j ⟨2048 * (i 2).val + 512 * 0 + j.val, by omega⟩ rfl).trans (h8 d _)
    · exact fun j => (rd_nc arg6.view _ _ (off8_eq i 0 (by decide)) j ⟨2048 * (i 2).val + 512 * 0 + j.val, by omega⟩ rfl).trans (h6 _)
    · exact fun j d => (rd_vx arg9.view _ _ (off9_eq i 0 (by decide)) j d ⟨2048 * (i 2).val + 512 * 0 + j.val, by omega⟩ rfl).trans (h9 _ d)
    · exact fun j l => rd_rows arg11.view _ _ j _ (Nat.zero_add _).symm l l rfl
    · exact fun j l => rd_rows arg12.view _ _ j _ (Nat.zero_add _).symm l l rfl
  have G2 : Good (T (2048 * (i 2).val) Q K NC) W (2048 * (i 2).val + 1024) (kernelRun0_A.sl.HS3_2 (F := Ideal) c i arg3 harg3 arg4 harg4 arg5 harg5 arg6 harg6 arg7 harg7 arg8 harg8 arg9 harg9 arg10 harg10 arg11 harg11 arg12 harg12 x0 x1 x2 x3) (kernelRun0_A.sl.HS4_2 (F := Ideal) c i arg3 harg3 arg4 harg4 arg5 harg5 arg6 harg6 arg7 harg7 arg8 harg8 arg9 harg9 arg10 harg10 arg11 harg11 arg12 harg12 x0 x1 x2 x3) := by
    unfold kernelRun0_A.sl.HS3_2 kernelRun0_A.sl.HS4_2 kernelRun0_A.sl.r_4 kernelRun0_A.sl.v104 kernelRun0_A.sl.v131 kernelRun0_A.sl.v86
    refine step_d1 (2048 * (i 2).val) Q K NC W ht G1 _ _ _ _ _ _ _ _ ?_ ?_ ?_ ?_ ?_ ?_
    · exact fun j d => (rd_rows arg10.view _ _ j ⟨512 + j.val, by omega⟩ rfl d d rfl).trans (hq2 _ d)
    · exact fun d j => (rd_kt arg8.view _ _ (off7_eq i 1 (by decide)) d j ⟨2048 * (i 2).val + 512 * 1 + j.val, by omega⟩ rfl).trans (h8 d _)
    · exact fun j => (rd_nc arg6.view _ _ (off8_eq i 1 (by decide)) j ⟨2048 * (i 2).val + 512 * 1 + j.val, by omega⟩ rfl).trans (h6 _)
    · exact fun j d => (rd_vx arg9.view _ _ (off9_eq i 1 (by decide)) j d ⟨2048 * (i 2).val + 512 * 1 + j.val, by omega⟩ rfl).trans (h9 _ d)
    · exact fun j l => rd_rows arg11.view _ _ j _ rfl l l rfl
    · exact fun j l => rd_rows arg12.view _ _ j _ rfl l l rfl
  have G3 : Good (T (2048 * (i 2).val) Q K NC) W (2048 * (i 2).val + 1536) (kernelRun0_A.sl.HS3_3 (F := Ideal) c i arg3 harg3 arg4 harg4 arg5 harg5 arg6 harg6 arg7 harg7 arg8 harg8 arg9 harg9 arg10 harg10 arg11 harg11 arg12 harg12 x0 x1 x2 x3) (kernelRun0_A.sl.HS4_3 (F := Ideal) c i arg3 harg3 arg4 harg4 arg5 harg5 arg6 harg6 arg7 harg7 arg8 harg8 arg9 harg9 arg10 harg10 arg11 harg11 arg12 harg12 x0 x1 x2 x3) := by
    unfold kernelRun0_A.sl.HS3_3 kernelRun0_A.sl.HS4_3 kernelRun0_A.sl.r_5 kernelRun0_A.sl.r_6 kernelRun0_A.sl.r_7 kernelRun0_A.sl.r_8 kernelRun0_A.sl.v162 kernelRun0_A.sl.v189 kernelRun0_A.sl.v144
    refine step_d2 (2048 * (i 2).val) Q K NC W ht G2 _ _ _ _ _ _ _ _ ?_ ?_ ?_ ?_ ?_ ?_
    · exact fun j d => (rd_rows arg10.view _ _ j ⟨1024 + j.val, by omega⟩ rfl d d rfl).trans (hq2 _ d)
    · exact fun d j => (rd_kt arg8.view _ _ (off7_eq i 2 (by decide)) d j ⟨2048 * (i 2).val + 512 * 2 + j.val, by omega⟩ rfl).trans (h8 d _)
    · exact fun j => (rd_nc arg6.view _ _ (off8_eq i 2 (by decide)) j ⟨2048 * (i 2).val + 512 * 2 + j.val, by omega⟩ rfl).trans (h6 _)
    · exact fun j d => (rd_vx arg9.view _ _ (off9_eq i 2 (by decide)) j d ⟨2048 * (i 2).val + 512 * 2 + j.val, by omega⟩ rfl).trans (h9 _ d)
    · exact fun j l => rd_rows arg11.view _ _ j _ rfl l l rfl
    · exact fun j l => rd_rows arg12.view _ _ j _ rfl l l rfl
  unfold kernelRun0_A.sl.HS4_4 kernelRun0_A.sl.r_9 kernelRun0_A.sl.v220 kernelRun0_A.sl.v247 kernelRun0_A.sl.v202
  refine step_d3 (2048 * (i 2).val) Q K NC W ht G3 _ _ _ _ _ _ _ ?_ ?_ ?_ ?_ ?_ ?_
  · exact fun j d => (rd_rows arg10.view _ _ j ⟨1536 + j.val, by omega⟩ rfl d d rfl).trans (hq2 _ d)
  · exact fun d j => (rd_kt arg8.view _ _ (off7_eq i 3 (by decide)) d j ⟨2048 * (i 2).val + 512 * 3 + j.val, by omega⟩ rfl).trans (h8 d _)
  · exact fun j => (rd_nc arg6.view _ _ (off8_eq i 3 (by decide)) j ⟨2048 * (i 2).val + 512 * 3 + j.val, by omega⟩ rfl).trans (h6 _)
  · exact fun j d => (rd_vx arg9.view _ _ (off9_eq i 3 (by decide)) j d ⟨2048 * (i 2).val + 512 * 3 + j.val, by omega⟩ rfl).trans (h9 _ d)
  · exact fun j l => rd_rows arg11.view _ _ j _ rfl l l rfl
  · exact fun j l => rd_rows arg12.view _ _ j _ rfl l l rfl

/-- The block it stores. -/
theorem out_A (Q K : ℕ → Fin 128 → EReal) (NC : ℕ → EReal) (W : ℕ → Fin 256 → EReal)
    (c : Dev nD) (i : grid0.Coords) (ht : ∀ j k, T (2048 * (i 2).val) Q K NC j k ≠ ⊤) (arg3 : Memref sig .tc .vmem S1x2048x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x1x4096 .f32) (harg6 : arg6.IsWhole) (arg7 : Memref sig .tc .vmem S1x2048x128 .bf16) (harg7 : arg7.IsWhole) (arg8 : Memref sig .tc .vmem S1x128x4096 .bf16) (harg8 : arg8.IsWhole) (arg9 : Memref sig .tc .vmem S1x4096x256 .bf16) (harg9 : arg9.IsWhole) (arg10 : Memref sig .tc .vmem S1x2048x128 .bf16) (harg10 : arg10.IsWhole) (arg11 : Memref sig .tc .vmem S1x2048x128 .f32) (harg11 : arg11.IsWhole) (arg12 : Memref sig .tc .vmem S1x2048x256 .f32) (harg12 : arg12.IsWhole)
    (x0 : Vec Ideal S1x2048x128 .f32) (x1 x2 : Vec Ideal S1x4096x128 .f32) (x3 : Vec Ideal S1x1x1x4096 .f32)
    (hQ : ∀ (j : Fin 2048) (d : Fin 128), k0_pay31 (F := Ideal) x0 (ix3 0 j d) = Q j.val d)
    (hK : ∀ (d : Fin 128) (k : Fin 4096), @Eq EReal (View.canon (kernelRun0_A.sl.HS0_8 (F := Ideal) c arg4 harg4 x1) (ix3 0 d k)) (K k.val d))
    (hN : ∀ k : Fin 4096, @Eq EReal (x3 (ix4 0 0 0 k)) (NC k.val))
    (hV : ∀ (k : Fin 4096) (j : Fin 256), @Eq EReal (View.canon (kernelRun0_A.sl.HS1_9 (F := Ideal) c arg5 harg5 x2) (ix3 0 k j)) (W k.val j)) (j : Fin 2048) (d : Fin 128) :
    @Eq EReal (k0_pay1 (F := Ideal) (kernelRun0_A.sl.r_10 (F := Ideal) c i arg3 harg3 arg4 harg4 arg5 harg5 arg6 harg6 arg7 harg7 arg8 harg8 arg9 harg9 arg10 harg10 arg11 harg11 arg12 harg12 x0 x1 x2 x3) (kernelRun0_A.sl.v259 (F := Ideal) c i arg3 harg3 arg4 harg4 arg5 harg5 arg6 harg6 arg7 harg7 arg8 harg8 arg9 harg9 arg10 harg10 arg11 harg11 arg12 harg12 x0 x1 x2 x3) (ix3 0 j d))
      (Ideal.div (ac (T (2048 * (i 2).val) Q K NC j.val) (fun k => W k ⟨d.val, by omega⟩) (2048 * (i 2).val + 2048))
        (ac (T (2048 * (i 2).val) Q K NC j.val) (fun k => W k ⟨128 + d.val, by omega⟩) (2048 * (i 2).val + 2048))) := by
  have h := acc_A Q K NC W c i ht arg3 harg3 arg4 harg4 arg5 harg5 arg6 harg6 arg7 harg7 arg8 harg8 arg9 harg9 arg10 harg10 arg11 harg11 arg12 harg12 x0 x1 x2 x3 hQ hK hN hV
  unfold kernelRun0_A.sl.r_10 kernelRun0_A.sl.v257 kernelRun0_A.sl.v259
  rw [pay1_at]
  refine congrArg₂ _ ?_ ?_
  · exact (rd_cols arg12.view _ _ j d ⟨d.val, by omega⟩ (Nat.zero_add _).symm).trans (h j _)
  · exact (rd_cols arg12.view _ _ j d ⟨128 + d.val, by omega⟩ rfl).trans (h j _)

set_option maxHeartbeats 2000000 in
/-- The second query block of a head: after its last tile the scratch holds, for every row, the weighted sums over all the keys it sees. -/
theorem acc_B (Q K : ℕ → Fin 128 → EReal) (NC : ℕ → EReal) (W : ℕ → Fin 256 → EReal)
    (c : Dev nD) (i : grid0.Coords) (ht : ∀ j k, T (2048 * (i 2).val) Q K NC j k ≠ ⊤) (arg3 : Memref sig .tc .vmem S1x2048x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x1x4096 .f32) (harg6 : arg6.IsWhole) (arg7 : Memref sig .tc .vmem S1x2048x128 .bf16) (harg7 : arg7.IsWhole) (arg8 : Memref sig .tc .vmem S1x128x4096 .bf16) (harg8 : arg8.IsWhole) (arg9 : Memref sig .tc .vmem S1x4096x256 .bf16) (harg9 : arg9.IsWhole) (arg10 : Memref sig .tc .vmem S1x2048x128 .bf16) (harg10 : arg10.IsWhole) (arg11 : Memref sig .tc .vmem S1x2048x128 .f32) (harg11 : arg11.IsWhole) (arg12 : Memref sig .tc .vmem S1x2048x256 .f32) (harg12 : arg12.IsWhole)
    (x0 : Vec Ideal S1x2048x128 .f32) (x3 : Vec Ideal S1x1x1x4096 .f32) (xs0 : Vec Ideal S1x128x4096 .bf16) (xs1 : Vec Ideal S1x4096x256 .bf16)
    (hQ : ∀ (j : Fin 2048) (d : Fin 128), k0_pay31 (F := Ideal) x0 (ix3 0 j d) = Q j.val d)
    (hK : ∀ (d : Fin 128) (k : Fin 4096), @Eq EReal (xs0 (ix3 0 d k)) (K k.val d))
    (hN : ∀ k : Fin 4096, @Eq EReal (x3 (ix4 0 0 0 k)) (NC k.val))
    (hV : ∀ (k : Fin 4096) (j : Fin 256), @Eq EReal (xs1 (ix3 0 k j)) (W k.val j)) :
    ∀ (j : Fin 2048) (l : Fin 256), @Eq EReal (View.canon (kernelRun0_B.sl.HS4_4 (F := Ideal) c i arg3 harg3 arg4 harg4 arg5 harg5 arg6 harg6 arg7 harg7 arg8 harg8 arg9 harg9 arg10 harg10 arg11 harg11 arg12 harg12 x0 x3 xs0 xs1) (ix3 0 j l)) (ac (T (2048 * (i 2).val) Q K NC j.val) (fun k => W k l) (2048 * (i 2).val + 2048)) := by
  have hi := i2_lt i
  have hq2 : ∀ (j : Fin 2048) (d : Fin 128), @Eq EReal (View.canon (kernelRun0_B.sl.HS2_1 (F := Ideal) c arg3 harg3 x0) (ix3 0 j d)) (Q j.val d) := by
    intro j d
    unfold kernelRun0_B.sl.HS2_1
    refine (canon_one _ _ _ j d).trans ?_
    have e : View.readAt (Elt Ideal) arg3.view (Rect.unit (s := S1x2048x128) ![0, 0, 0] S1x2048x128.size inb_S1x2048x128_S1x2048x128_0_0_0).toLoadRect (harg3.unread x0) = x0 := by
      funext y
      idx_vars y
      match y0 with
      | 0 => exact (rd_blk arg3.view _ _ _ _).trans (congrFun (harg3.read_unread x0) _)
    rw [e]
    exact hQ j d
  have h8 : ∀ (d : Fin 128) (k : Fin 4096), @Eq EReal (arg8.view.read (Elt Ideal) (harg8.unread xs0) (ix3 0 d k)) (K k.val d) := fun d k => (congrFun (harg8.read_unread xs0) _).trans (hK d k)
  have h9 : ∀ (k : Fin 4096) (j : Fin 256), @Eq EReal (arg9.view.read (Elt Ideal) (harg9.unread xs1) (ix3 0 k j)) (W k.val j) := fun k j => (congrFun (harg9.read_unread xs1) _).trans (hV k j)
  have h6 : ∀ k : Fin 4096, @Eq EReal (arg6.view.read (Elt Ideal) (harg6.unread x3) (ix4 0 0 0 k)) (NC k.val) := fun k => (congrFun (harg6.read_unread x3) _).trans (hN k)
  have h10 : ∀ (j : Fin 2048) (d : Fin 128), @Eq EReal (arg10.view.read (Elt Ideal) (arg10.view.writes (Elt Ideal) arg10.view.junk (kernelRun0_B.sl.HS2_1 (F := Ideal) c arg3 harg3 x0)) (ix3 0 j d)) (Q j.val d) := fun j d => by
    rw [View.read_writes_junk_eq_canon]; exact hq2 j d
  have Gz : Good (T (2048 * (i 2).val) Q K NC) W 0 (kernelRun0_B.sl.HS3_1 (F := Ideal)) (kernelRun0_B.sl.HS4_1 (F := Ideal)) := by
    unfold kernelRun0_B.sl.HS3_1 kernelRun0_B.sl.HS4_1
    refine ⟨fun j l => ?_, fun j l => ?_⟩
    · exact (canon_one _ _ _ j l).trans ((pay32_at j l).trans (mx_zero _).symm)
    · exact (canon_one _ _ _ j l).trans ((pay33_at j l).trans (ac_zero _ _).symm)
  have G0 := loop_good (2048 * (i 2).val) Q K NC W ht (by omega) c i arg3 harg3 arg4 harg4 arg5 harg5 arg6 harg6 arg7 harg7 arg8 harg8 arg9 harg9 arg10 harg10 arg11 harg11 arg12 harg12 (harg6.unread x3) (harg8.unread xs0) (harg9.unread xs1) (arg10.view.writes (Elt Ideal) arg10.view.junk (kernelRun0_B.sl.HS2_1 (F := Ideal) c arg3 harg3 x0)) h10 h8 h6 h9 _ _ Gz
    (Scf.trips (k0_t1_loop i).lb (k0_t1_loop i).ub (k0_t1_loop i).st) le_rfl (by rw [trips1]; omega)
  have e4 : 512 * Scf.trips (k0_t1_loop i).lb (k0_t1_loop i).ub (k0_t1_loop i).st = 2048 * (i 2).val := by rw [trips1]; omega
  rw [e4] at G0
  have G1 : Good (T (2048 * (i 2).val) Q K NC) W (2048 * (i 2).val + 512) (kernelRun0_B.sl.HS3_1_1 (F := Ideal) c i arg3 harg3 arg4 harg4 arg5 harg5 arg6 harg6 arg7 harg7 arg8 harg8 arg9 harg9 arg10 harg10 arg11 harg11 arg12 harg12 x0 x3 xs0 xs1) (kernelRun0_B.sl.HS4_1_1 (F := Ideal) c i arg3 harg3 arg4 harg4 arg5 harg5 arg6 harg6 arg7 harg7 arg8 harg8 arg9 harg9 arg10 harg10 arg11 harg11 arg12 harg12 x0 x3 xs0 xs1) := by
    unfold kernelRun0_B.sl.HS3_1_1 kernelRun0_B.sl.HS4_1_1 kernelRun0_B.sl.r kernelRun0_B.sl.r_1 kernelRun0_B.sl.r_2 kernelRun0_B.sl.v46 kernelRun0_B.sl.v73 kernelRun0_B.sl.v28
    rw [trips2]
    simp only [pb_k0_t2.eq_1, List.nil_append]
    refine step_d0 (2048 * (i 2).val) Q K NC W ht G0 _ _ _ _ _ _ _ _ ?_ ?_ ?_ ?_ ?_ ?_
    · exact fun j d => (rd_rows arg10.view _ _ j j (Nat.zero_add _).symm d d rfl).trans (hq2 _ d)
    · exact fun d j => (rd_kt arg8.view _ _ (off7_eq i 0 (by decide)) d j ⟨2048 * (i 2).val + 512 * 0 + j.val, by omega⟩ rfl).trans (h8 d _)
    · exact fun j => (rd_nc arg6.view _ _ (off8_eq i 0 (by decide)) j ⟨2048 * (i 2).val + 512 * 0 + j.val, by omega⟩ rfl).trans (h6 _)
    · exact fun j d => (rd_vx arg9.view _ _ (off9_eq i 0 (by decide)) j d ⟨2048 * (i 2).val + 512 * 0 + j.val, by omega⟩ rfl).trans (h9 _ d)
    · exact fun j l => rd_rows arg11.view _ _ j _ (Nat.zero_add _).symm l l rfl
    · exact fun j l => rd_rows arg12.view _ _ j _ (Nat.zero_add _).symm l l rfl
  have G2 : Good (T (2048 * (i 2).val) Q K NC) W (2048 * (i 2).val + 1024) (kernelRun0_B.sl.HS3_2 (F := Ideal) c i arg3 harg3 arg4 harg4 arg5 harg5 arg6 harg6 arg7 harg7 arg8 harg8 arg9 harg9 arg10 harg10 arg11 harg11 arg12 harg12 x0 x3 xs0 xs1) (kernelRun0_B.sl.HS4_2 (F := Ideal) c i arg3 harg3 arg4 harg4 arg5 harg5 arg6 harg6 arg7 harg7 arg8 harg8 arg9 harg9 arg10 harg10 arg11 harg11 arg12 harg12 x0 x3 xs0 xs1) := by
    unfold kernelRun0_B.sl.HS3_2 kernelRun0_B.sl.HS4_2 kernelRun0_B.sl.r_3 kernelRun0_B.sl.v104 kernelRun0_B.sl.v131 kernelRun0_B.sl.v86
    refine step_d1 (2048 * (i 2).val) Q K NC W ht G1 _ _ _ _ _ _ _ _ ?_ ?_ ?_ ?_ ?_ ?_
    · exact fun j d => (rd_rows arg10.view _ _ j ⟨512 + j.val, by omega⟩ rfl d d rfl).trans (hq2 _ d)
    · exact fun d j => (rd_kt arg8.view _ _ (off7_eq i 1 (by decide)) d j ⟨2048 * (i 2).val + 512 * 1 + j.val, by omega⟩ rfl).trans (h8 d _)
    · exact fun j => (rd_nc arg6.view _ _ (off8_eq i 1 (by decide)) j ⟨2048 * (i 2).val + 512 * 1 + j.val, by omega⟩ rfl).trans (h6 _)
    · exact fun j d => (rd_vx arg9.view _ _ (off9_eq i 1 (by decide)) j d ⟨2048 * (i 2).val + 512 * 1 + j.val, by omega⟩ rfl).trans (h9 _ d)
    · exact fun j l => rd_rows arg11.view _ _ j _ rfl l l rfl
    · exact fun j l => rd_rows arg12.view _ _ j _ rfl l l rfl
  have G3 : Good (T (2048 * (i 2).val) Q K NC) W (2048 * (i 2).val + 1536) (kernelRun0_B.sl.HS3_3 (F := Ideal) c i arg3 harg3 arg4 harg4 arg5 harg5 arg6 harg6 arg7 harg7 arg8 harg8 arg9 harg9 arg10 harg10 arg11 harg11 arg12 harg12 x0 x3 xs0 xs1) (kernelRun0_B.sl.HS4_3 (F := Ideal) c i arg3 harg3 arg4 harg4 arg5 harg5 arg6 harg6 arg7 harg7 arg8 harg8 arg9 harg9 arg10 harg10 arg11 harg11 arg12 harg12 x0 x3 xs0 xs1) := by
    unfold kernelRun0_B.sl.HS3_3 kernelRun0_B.sl.HS4_3 kernelRun0_B.sl.r_4 kernelRun0_B.sl.r_5 kernelRun0_B.sl.r_6 kernelRun0_B.sl.r_7 kernelRun0_B.sl.v162 kernelRun0_B.sl.v189 kernelRun0_B.sl.v144
    refine step_d2 (2048 * (i 2).val) Q K NC W ht G2 _ _ _ _ _ _ _ _ ?_ ?_ ?_ ?_ ?_ ?_
    · exact fun j d => (rd_rows arg10.view _ _ j ⟨1024 + j.val, by omega⟩ rfl d d rfl).trans (hq2 _ d)
    · exact fun d j => (rd_kt arg8.view _ _ (off7_eq i 2 (by decide)) d j ⟨2048 * (i 2).val + 512 * 2 + j.val, by omega⟩ rfl).trans (h8 d _)
    · exact fun j => (rd_nc arg6.view _ _ (off8_eq i 2 (by decide)) j ⟨2048 * (i 2).val + 512 * 2 + j.val, by omega⟩ rfl).trans (h6 _)
    · exact fun j d => (rd_vx arg9.view _ _ (off9_eq i 2 (by decide)) j d ⟨2048 * (i 2).val + 512 * 2 + j.val, by omega⟩ rfl).trans (h9 _ d)
    · exact fun j l => rd_rows arg11.view _ _ j _ rfl l l rfl
    · exact fun j l => rd_rows arg12.view _ _ j _ rfl l l rfl
  unfold kernelRun0_B.sl.HS4_4 kernelRun0_B.sl.r_8 kernelRun0_B.sl.v220 kernelRun0_B.sl.v247 kernelRun0_B.sl.v202
  refine step_d3 (2048 * (i 2).val) Q K NC W ht G3 _ _ _ _ _ _ _ ?_ ?_ ?_ ?_ ?_ ?_
  · exact fun j d => (rd_rows arg10.view _ _ j ⟨1536 + j.val, by omega⟩ rfl d d rfl).trans (hq2 _ d)
  · exact fun d j => (rd_kt arg8.view _ _ (off7_eq i 3 (by decide)) d j ⟨2048 * (i 2).val + 512 * 3 + j.val, by omega⟩ rfl).trans (h8 d _)
  · exact fun j => (rd_nc arg6.view _ _ (off8_eq i 3 (by decide)) j ⟨2048 * (i 2).val + 512 * 3 + j.val, by omega⟩ rfl).trans (h6 _)
  · exact fun j d => (rd_vx arg9.view _ _ (off9_eq i 3 (by decide)) j d ⟨2048 * (i 2).val + 512 * 3 + j.val, by omega⟩ rfl).trans (h9 _ d)
  · exact fun j l => rd_rows arg11.view _ _ j _ rfl l l rfl
  · exact fun j l => rd_rows arg12.view _ _ j _ rfl l l rfl

/-- The block it stores. -/
theorem out_B (Q K : ℕ → Fin 128 → EReal) (NC : ℕ → EReal) (W : ℕ → Fin 256 → EReal)
    (c : Dev nD) (i : grid0.Coords) (ht : ∀ j k, T (2048 * (i 2).val) Q K NC j k ≠ ⊤) (arg3 : Memref sig .tc .vmem S1x2048x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x1x4096 .f32) (harg6 : arg6.IsWhole) (arg7 : Memref sig .tc .vmem S1x2048x128 .bf16) (harg7 : arg7.IsWhole) (arg8 : Memref sig .tc .vmem S1x128x4096 .bf16) (harg8 : arg8.IsWhole) (arg9 : Memref sig .tc .vmem S1x4096x256 .bf16) (harg9 : arg9.IsWhole) (arg10 : Memref sig .tc .vmem S1x2048x128 .bf16) (harg10 : arg10.IsWhole) (arg11 : Memref sig .tc .vmem S1x2048x128 .f32) (harg11 : arg11.IsWhole) (arg12 : Memref sig .tc .vmem S1x2048x256 .f32) (harg12 : arg12.IsWhole)
    (x0 : Vec Ideal S1x2048x128 .f32) (x3 : Vec Ideal S1x1x1x4096 .f32) (xs0 : Vec Ideal S1x128x4096 .bf16) (xs1 : Vec Ideal S1x4096x256 .bf16)
    (hQ : ∀ (j : Fin 2048) (d : Fin 128), k0_pay31 (F := Ideal) x0 (ix3 0 j d) = Q j.val d)
    (hK : ∀ (d : Fin 128) (k : Fin 4096), @Eq EReal (xs0 (ix3 0 d k)) (K k.val d))
    (hN : ∀ k : Fin 4096, @Eq EReal (x3 (ix4 0 0 0 k)) (NC k.val))
    (hV : ∀ (k : Fin 4096) (j : Fin 256), @Eq EReal (xs1 (ix3 0 k j)) (W k.val j)) (j : Fin 2048) (d : Fin 128) :
    @Eq EReal (k0_pay1 (F := Ideal) (kernelRun0_B.sl.r_9 (F := Ideal) c i arg3 harg3 arg4 harg4 arg5 harg5 arg6 harg6 arg7 harg7 arg8 harg8 arg9 harg9 arg10 harg10 arg11 harg11 arg12 harg12 x0 x3 xs0 xs1) (kernelRun0_B.sl.v259 (F := Ideal) c i arg3 harg3 arg4 harg4 arg5 harg5 arg6 harg6 arg7 harg7 arg8 harg8 arg9 harg9 arg10 harg10 arg11 harg11 arg12 harg12 x0 x3 xs0 xs1) (ix3 0 j d))
      (Ideal.div (ac (T (2048 * (i 2).val) Q K NC j.val) (fun k => W k ⟨d.val, by omega⟩) (2048 * (i 2).val + 2048))
        (ac (T (2048 * (i 2).val) Q K NC j.val) (fun k => W k ⟨128 + d.val, by omega⟩) (2048 * (i 2).val + 2048))) := by
  have h := acc_B Q K NC W c i ht arg3 harg3 arg4 harg4 arg5 harg5 arg6 harg6 arg7 harg7 arg8 harg8 arg9 harg9 arg10 harg10 arg11 harg11 arg12 harg12 x0 x3 xs0 xs1 hQ hK hN hV
  unfold kernelRun0_B.sl.r_9 kernelRun0_B.sl.v257 kernelRun0_B.sl.v259
  rw [pay1_at]
  refine congrArg₂ _ ?_ ?_
  · exact (rd_cols arg12.view _ _ j d ⟨d.val, by omega⟩ (Nat.zero_add _).symm).trans (h j _)
  · exact (rd_cols arg12.view _ _ j d ⟨128 + d.val, by omega⟩ rfl).trans (h j _)

end Cert.KernelIdeal.Value
-- ==== Proof.FoxCanon.lean ====
/- What the first query block of a head leaves in the two scratch buffers the second reads: the keys, transposed, and the values
   beside columns of ones. -/
module

public import proofs.«01_k».proof.Proof.FoxRun

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (mx ac mx_zero ac_zero)

/-- A load of 512 rows from row `o` reads those rows. -/
theorem rd_512 (v : View sig .tc .vmem S1x4096x128 .f32) (o : ℕ) (inb : ∀ a, (![0, o, 0] : Fin 3 → ℕ) a + S1x512x128.size a ≤ S1x4096x128.size a)
    (x : v.ty.Contents (Elt Ideal)) (d : Fin 128) (k : Fin 512) (K : Fin 4096) (hk : K.val = o + k.val) :
    @Eq EReal (View.readAt (Elt Ideal) v (Rect.unit (s := S1x4096x128) ![0, o, 0] S1x512x128.size inb).toLoadRect x (ix3 0 k d))
      (v.read (Elt Ideal) x (ix3 0 K d)) := by
  rw [View.readAt_apply]
  refine congrArg _ ?_
  funext a
  apply Fin.ext
  match a with
  | 0 => rfl
  | 1 => show o + 1 * k.val = K.val; omega
  | 2 => show 0 + 1 * d.val = d.val; omega

/-- The stored form of 512 keys: their transpose. -/
theorem pay28_at (x : FVec Ideal S1x512x128 .f32) (d : Fin 128) (k : Fin 512) : k0_pay28 (F := Ideal) x (ix3 0 d k) = x (ix3 0 k d) := by
  pointwise [k0_pay28]

/-- The stored form of 512 values: themselves. -/
theorem pay29_at (x : FVec Ideal S1x512x128 .f32) (d : Fin 128) (k : Fin 512) : k0_pay29 (F := Ideal) x (ix3 0 k d) = x (ix3 0 k d) := by
  pointwise [k0_pay29]

/-- The stored ones. -/
theorem pay30_at (d : Fin 128) (k : Fin 4096) : k0_pay30 (F := Ideal) (ix3 0 k d) = 1 := by
  pointwise [k0_pay30]

/-- A tile of the stored keys holds the key block's rows as columns. -/
theorem tile_key (v : View sig .tc .vmem S1x4096x128 .f32) (o : ℕ) (inb : ∀ a, (![0, o, 0] : Fin 3 → ℕ) a + S1x512x128.size a ≤ S1x4096x128.size a)
    (x : v.ty.Contents (Elt Ideal)) (d : Fin 128) (k : Fin 512) (K : Fin 4096) (hk : K.val = o + k.val) :
    @Eq EReal (k0_pay28 (F := Ideal) (View.readAt (Elt Ideal) v (Rect.unit (s := S1x4096x128) ![0, o, 0] S1x512x128.size inb).toLoadRect x) (ix3 0 d k))
      (v.read (Elt Ideal) x (ix3 0 K d)) :=
  (pay28_at _ d k).trans (rd_512 v o inb x d k K hk)

/-- A tile of the stored values holds the value block's rows. -/
theorem tile_val (v : View sig .tc .vmem S1x4096x128 .f32) (o : ℕ) (inb : ∀ a, (![0, o, 0] : Fin 3 → ℕ) a + S1x512x128.size a ≤ S1x4096x128.size a)
    (x : v.ty.Contents (Elt Ideal)) (d : Fin 128) (k : Fin 512) (K : Fin 4096) (hk : K.val = o + k.val) :
    @Eq EReal (k0_pay29 (F := Ideal) (View.readAt (Elt Ideal) v (Rect.unit (s := S1x4096x128) ![0, o, 0] S1x512x128.size inb).toLoadRect x) (ix3 0 k d))
      (v.read (Elt Ideal) x (ix3 0 K d)) :=
  (pay29_at _ d k).trans (rd_512 v o inb x d k K hk)

/-- The scratch of keys holds the key block, transposed. -/
theorem canon_keys (c : Dev nD) (arg4 : Memref sig .tc .vmem S1x4096x128 .f32) (harg4 : arg4.IsWhole) (kv : Vec Ideal S1x4096x128 .f32) (d : Fin 128) (k : Fin 4096) :
    @Eq EReal (View.canon (kernelRun0_A.sl.HS0_8 (F := Ideal) c arg4 harg4 kv) (ix3 0 d k)) (kv (ix3 0 k d)) := by
  unfold kernelRun0_A.sl.HS0_8
  canon_tiles y h
  all_goals
    idx_vars y
    match y0 with
    | 0 =>
      have e : d = y1 := Fin.ext h1
      have e2 := h2
      subst e
      exact (tile_key arg4.view _ _ _ _ _ k (by first | exact e2 | (exact e2.trans (Nat.zero_add _).symm))).trans (congrFun (harg4.read_unread kv) _)

/-- The scratch of values holds the value block and ones. -/
theorem canon_vals (c : Dev nD) (arg4 : Memref sig .tc .vmem S1x4096x128 .f32) (harg4 : arg4.IsWhole) (kv : Vec Ideal S1x4096x128 .f32) (d : Fin 256) (k : Fin 4096) :
    @Eq EReal (View.canon (kernelRun0_A.sl.HS1_9 (F := Ideal) c arg4 harg4 kv) (ix3 0 k d)) (if h : d.val < 128 then kv (ix3 0 k ⟨d.val, h⟩) else 1) := by
  unfold kernelRun0_A.sl.HS1_9
  canon_tiles y h using (View.cover_of_tiledBy _ ![1, 512, 128] (by sl_kernel_rfl) _)
  · idx_vars y
    match y0 with
    | 0 =>
      have e : d.val = 128 + y2.val := h2
      rw [dif_neg (by omega)]
      exact pay30_at y2 y1
  all_goals
    idx_vars y
    match y0 with
    | 0 =>
      have e : d.val = y2.val := h2
      have e1 := h1
      rw [dif_pos (by omega)]
      have e3 : (⟨d.val, by omega⟩ : Fin 128) = y2 := Fin.ext e
      rw [e3]
      exact (tile_val arg4.view _ _ _ _ _ k (by first | exact e1 | (exact e1.trans (Nat.zero_add _).symm))).trans (congrFun (harg4.read_unread kv) _)

end Cert.KernelIdeal.Value

end
-- ==== Proof.FoxRef.lean ====
/- The forgetting attention's reference, read at an index. -/
module

public import proofs.«01_k».proof.Proof.Gen.ReferenceIdeal.Run
public import proofs.«01_k».proof.Proof.FoxScore
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen
open Cert.KernelIdeal.Value (sel_le bot_eq)

/-- The masked scores, as a function of the projected activations and the cumulative gates. -/
def SCORE (z : FVec Ideal S8x4096x22528 .f32) (c : FVec Ideal S8x16x4096 .f32) : FVec Ideal S8x16x4096x4096 .f32 :=
  select (broadcastInDim S8x16x4096x4096 ![2, 3] bcast_S4096x4096_S8x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Host.dotGeneral dot_S8x4096x16x128_S8x4096x16x128_S8x16x4096x4096_3_3_1_1_02_02 none (shapeCast _ (extractStridedSlice S8x4096x2048 ![0, 0, 6144] z slices_S8x4096x22528_S8x4096x2048_0_0_6144) shapeCasts_S8x4096x2048_S8x4096x16x128) (shapeCast _ (extractStridedSlice S8x4096x2048 ![0, 0, 8192] z slices_S8x4096x22528_S8x4096x2048_0_0_8192) shapeCasts_S8x4096x2048_S8x4096x16x128)) (broadcastInDim S8x16x4096x4096 ![] bcast_S_S8x16x4096x4096 (constant S_ .f32 0x3DB504F3#32))) (subf (broadcastInDim S8x16x4096x4096 ![0, 1, 2, 3] bcast_S8x16x4096x1_S8x16x4096x4096_0_1_2_3 (broadcastInDim S8x16x4096x1 ![0, 1, 2] bcast_S8x16x4096_S8x16x4096x1_0_1_2 c)) (broadcastInDim S8x16x4096x4096 ![0, 1, 2, 3] bcast_S8x16x1x4096_S8x16x4096x4096_0_1_2_3 (broadcastInDim S8x16x1x4096 ![0, 1, 3] bcast_S8x16x4096_S8x16x1x4096_0_1_3 c)))) (broadcastInDim S8x16x4096x4096 ![] bcast_S_S8x16x4096x4096 (id (constant S_ .f32 0xFF800000#32)))

/-- Each row's maximum, as a function of the projected activations and the cumulative gates. -/
def RM (z : FVec Ideal S8x4096x22528 .f32) (c : FVec Ideal S8x16x4096 .f32) : FVec Ideal S8x16x4096 .f32 :=
  Host.reduce FloatOps.maximumf (SCORE z c) (constant S_ .f32 0xFF800000#32) reducesTo_S8x16x4096x4096_S8x16x4096_d3 h_S_

/-- Each row's greatest score, as a function of the projected activations and the cumulative gates. -/
def MX (z : FVec Ideal S8x4096x22528 .f32) (c : FVec Ideal S8x16x4096 .f32) : FVec Ideal S8x16x4096 .f32 :=
  maximumf (broadcastInDim S8x16x4096 ![] bcast_S_S8x16x4096 (constant S_ .f32 0xFF800000#32)) (RM z c)

/-- The shifted exponentials, as a function of the projected activations and the cumulative gates. -/
def EX (z : FVec Ideal S8x4096x22528 .f32) (c : FVec Ideal S8x16x4096 .f32) : FVec Ideal S8x16x4096x4096 .f32 :=
  Host.exp (subf (SCORE z c) (broadcastInDim S8x16x4096x4096 ![0, 1, 2, 3] bcast_S8x16x4096x1_S8x16x4096x4096_0_1_2_3 (broadcastInDim S8x16x4096x1 ![0, 1, 2] bcast_S8x16x4096_S8x16x4096x1_0_1_2 (MX z c))))

/-- Their sums, as a function of the projected activations and the cumulative gates. -/
def SM (z : FVec Ideal S8x4096x22528 .f32) (c : FVec Ideal S8x16x4096 .f32) : FVec Ideal S8x16x4096 .f32 :=
  Host.reduceAdd (EX z c) (constant S_ .f32 0x00000000#32) reducesTo_S8x16x4096x4096_S8x16x4096_d3 h_S_

/-- The softmax, as a function of the projected activations and the cumulative gates. -/
def PR (z : FVec Ideal S8x4096x22528 .f32) (c : FVec Ideal S8x16x4096 .f32) : FVec Ideal S8x16x4096x4096 .f32 :=
  Host.divf (EX z c) (broadcastInDim S8x16x4096x4096 ![0, 1, 2, 3] bcast_S8x16x4096x1_S8x16x4096x4096_0_1_2_3 (broadcastInDim S8x16x4096x1 ![0, 1, 2] bcast_S8x16x4096_S8x16x4096x1_0_1_2 (SM z c)))

/-- The reference's result as a function of the projected activations and the cumulative gates. -/
def REF (z : FVec Ideal S8x4096x22528 .f32) (c : FVec Ideal S8x16x4096 .f32) : FVec Ideal S8x4096x2048 .bf16 :=
  truncf .bf16 (shapeCast _ (transpose S8x4096x16x128 [0, 3, 1, 2] (Host.dotGeneral dot_S8x4096x16x128_S8x16x4096x4096_S8x16x128x4096_1_3_3_2_02_01 none (shapeCast _ (extractStridedSlice S8x4096x2048 ![0, 0, 10240] z slices_S8x4096x22528_S8x4096x2048_0_0_10240) shapeCasts_S8x4096x2048_S8x4096x16x128) (PR z c)) transposes_S8x16x128x4096_S8x4096x16x128_0_3_1_2) shapeCasts_S8x4096x16x128_S8x4096x2048) bitsLt_bf16_f32

/-- The reference's scale is 2⁻²⁷ · 11863283. -/
theorem scale_eq : Ideal.ofBits .f32 0x3DB504F3#32 = ((11863283 / 134217728 : ℝ) : EReal) := by
  simp [Ideal.ofBits, Ideal.ieee, -EReal.coe_mul]; norm_num

/-- The score of query `q` and key `k` of head `h`. -/
theorem SCORE_at (z : FVec Ideal S8x4096x22528 .f32) (c : FVec Ideal S8x16x4096 .f32) (b : Fin 8) (h : Fin 16) (q k : Fin 4096) :
    SCORE z c (ix4 b h q k) = if k.val ≤ q.val then (∑ d : Fin 128, z (ix3 b q ⟨6144 + (h.val * 128 + d.val), by omega⟩) * z (ix3 b k ⟨8192 + (h.val * 128 + d.val), by omega⟩))
      * ((11863283 / 134217728 : ℝ) : EReal) + (c (ix3 b h q) - c (ix3 b h k)) else ⊥ := by
  pointwise [SCORE]
  rw [scale_eq]
  refine (sel_le k.val q.val k.isLt q.isLt _ _).trans ?_
  exact if_congr Iff.rfl rfl bot_eq

/-- The maximum over the last of four axes, from −∞. -/
theorem rowmax_at {A B C N : ℕ} (s : FVec Ideal ⟨4, ![A, B, C, N]⟩ .f32) (h' : (⟨4, ![A, B, C, N]⟩ : Shape).ReducesTo [3] (⟨3, ![A, B, C]⟩ : Shape))
    (hr : (⟨4, ![A, B, C, N]⟩ : Shape).Reduces [3] (⟨3, ![A, B, C]⟩ : Shape)) (hu : 0 < (⟨0, ![]⟩ : Shape).numel) (b : Fin A) (h : Fin B) (q : Fin C) :
    Host.reduce FloatOps.maximumf s (constant (⟨0, ![]⟩ : Shape) .f32 0xFF800000#32) h' hu (ix3 b h q)
    = Finset.univ.fold max ⊥ fun y : Fin N => s (ix4 b h q y) := by
  rw [Host.reduce_eq_fold_single FloatOps.maximumf s _ h' hr hu]
  have e : s ∘ hr.lift (ix3 b h q) = fun y : Fin N => s (ix4 b h q y) := by
    funext y
    refine congrArg s ?_
    funext a
    apply Fin.ext
    match a with
    | 0 => rfl
    | 1 => rfl
    | 2 => rfl
    | 3 => rfl
  refine (congrArg (fun f => Finset.fold max (Ideal.ofBits .f32 0xFF800000#32) f (Finset.univ : Finset (Fin N))) e).trans ?_
  exact congrArg (fun u => Finset.univ.fold max u fun y : Fin N => s (ix4 b h q y)) bot_eq

/-- The last axis of the scores can be reduced. -/
theorem red3 : S8x16x4096x4096.Reduces [3] S8x16x4096 := by decide

/-- A row's maximum. -/
theorem RM_at (z : FVec Ideal S8x4096x22528 .f32) (c : FVec Ideal S8x16x4096 .f32) (b : Fin 8) (h : Fin 16) (q : Fin 4096) :
    RM z c (ix3 b h q) = Finset.univ.fold max ⊥ fun y : Fin 4096 => SCORE z c (ix4 b h q y) :=
  rowmax_at (SCORE z c) reducesTo_S8x16x4096x4096_S8x16x4096_d3 red3 h_S_ b h q

/-- The larger of −∞ and a vector's entry. -/
theorem mx_at (r : FVec Ideal S8x16x4096 .f32) (b : Fin 8) (h : Fin 16) (q : Fin 4096) :
    maximumf (broadcastInDim S8x16x4096 ![] bcast_S_S8x16x4096 (constant S_ .f32 0xFF800000#32)) r (ix3 b h q) = max ⊥ (r (ix3 b h q)) :=
  congrArg (fun u => max u (r (ix3 b h q))) bot_eq

/-- A row's greatest score. -/
theorem MX_at (z : FVec Ideal S8x4096x22528 .f32) (c : FVec Ideal S8x16x4096 .f32) (b : Fin 8) (h : Fin 16) (q : Fin 4096) :
    MX z c (ix3 b h q) = max ⊥ (Finset.univ.fold max ⊥ fun y : Fin 4096 => SCORE z c (ix4 b h q y)) :=
  (mx_at (RM z c) b h q).trans (congrArg _ (RM_at z c b h q))

/-- An exponential of the score less the row's greatest. -/
theorem EX_at (z : FVec Ideal S8x4096x22528 .f32) (c : FVec Ideal S8x16x4096 .f32) (b : Fin 8) (h : Fin 16) (q k : Fin 4096) :
    EX z c (ix4 b h q k) = Ideal.exp (SCORE z c (ix4 b h q k) - MX z c (ix3 b h q)) := by
  pointwise [EX]

/-- A row's sum of exponentials. -/
theorem SM_at (z : FVec Ideal S8x4096x22528 .f32) (c : FVec Ideal S8x16x4096 .f32) (b : Fin 8) (h : Fin 16) (q : Fin 4096) :
    SM z c (ix3 b h q) = 0 + ∑ y : Fin 4096, EX z c (ix4 b h q y) := by
  pointwise [SM]

/-- An entry of the softmax. -/
theorem PR_at (z : FVec Ideal S8x4096x22528 .f32) (c : FVec Ideal S8x16x4096 .f32) (b : Fin 8) (h : Fin 16) (q k : Fin 4096) :
    PR z c (ix4 b h q k) = Ideal.div (EX z c (ix4 b h q k)) (SM z c (ix3 b h q)) := by
  pointwise [PR]

/-- An entry of the reference: the softmax's row times the values' column. -/
theorem REF_at (z : FVec Ideal S8x4096x22528 .f32) (c : FVec Ideal S8x16x4096 .f32) (b : Fin 8) (q : Fin 4096) (h : Fin 16) (d : Fin 128) :
    REF z c (ix3 b q ⟨h.val * 128 + d.val, by omega⟩) = ∑ k : Fin 4096, PR z c (ix4 b h q k) * z (ix3 b k ⟨10240 + (h.val * 128 + d.val), by omega⟩) := by
  pointwise [REF]
  exact Finset.sum_congr rfl fun k _ => mul_comm _ _

/-- The reference's run ends with that function of its arguments. -/
theorem res_eq (m : (ℓ : Loc nD τ sig) → Buf (Elt Ideal) ℓ) (c : Dev nD) :
    res_main_v37 m c = REF (m ((c.tc : Thread nD τ).loc main_arg0)) (m ((c.tc : Thread nD τ).loc main_arg1)) := by
  unfold res_main_v37 REF PR SM EX MX RM SCORE
  rfl

end Cert.ReferenceIdeal.Value
-- ==== Proof.FoxVal.lean ====
/- The forgetting attention on finite scores: the quotient of the kernel's weighted sums is the reference's softmax row times the
   values' column. -/
module

public import proofs.«01_k».proof.Proof.FoxRef

@[expose] public section

set_option maxRecDepth 16384

noncomputable section

open Idealize.ShloMosaic Idealize.ShloMosaic.TcCoe Idealize.SL.Sem

namespace Cert.Proof.Fox

open Cert.ReferenceIdeal (S8x4096x22528 S8x16x4096)
open Cert.ReferenceIdeal.Value
open Cert.KernelIdeal.Value (sc)
open Cert.Proof.Online (ac quotient)

/-- Row `n` and column `j` of batch `b` of the projected activations. -/
def zat (z : FVec Ideal S8x4096x22528 .f32) (b : Fin 8) (n : ℕ) (j : Fin 22528) : EReal :=
  z (ix3 b ⟨n % 4096, Nat.mod_lt _ (by decide)⟩ j)

/-- The cumulative gate of row `n` of head `h` of batch `b`. -/
def cat (c : FVec Ideal S8x16x4096 .f32) (b : Fin 8) (h : Fin 16) (n : ℕ) : EReal :=
  c (ix3 b h ⟨n % 4096, Nat.mod_lt _ (by decide)⟩)

/-- Head `h`'s query at row `n`, as a real. -/
def qr (z : FVec Ideal S8x4096x22528 .f32) (b : Fin 8) (h : Fin 16) (n : ℕ) (d : Fin 128) : ℝ :=
  (zat z b n ⟨6144 + (h.val * 128 + d.val), by omega⟩).toReal

/-- Head `h`'s key at row `n`, as a real. -/
def kr (z : FVec Ideal S8x4096x22528 .f32) (b : Fin 8) (h : Fin 16) (n : ℕ) (d : Fin 128) : ℝ :=
  (zat z b n ⟨8192 + (h.val * 128 + d.val), by omega⟩).toReal

/-- Head `h`'s cumulative gate at row `n`, as a real. -/
def cr (c : FVec Ideal S8x16x4096 .f32) (b : Fin 8) (h : Fin 16) (n : ℕ) : ℝ := (cat c b h n).toReal

/-- The scaled query the kernel multiplies keys with, row `i` of the block at row `o`. -/
def Qk (z : FVec Ideal S8x4096x22528 .f32) (b : Fin 8) (h : Fin 16) (o : ℕ) (i : ℕ) (d : Fin 128) : EReal :=
  ((qr z b h (o + i) d * (11863283 / 134217728 * (Real.log 2)⁻¹) : ℝ) : EReal)

/-- The key the kernel reads. -/
def Kk (z : FVec Ideal S8x4096x22528 .f32) (b : Fin 8) (h : Fin 16) (k : ℕ) (d : Fin 128) : EReal := ((kr z b h k d : ℝ) : EReal)

/-- The negated cumulative gate the kernel reads. -/
def Nk (c : FVec Ideal S8x16x4096 .f32) (b : Fin 8) (h : Fin 16) (k : ℕ) : EReal := ((-(cr c b h k) : ℝ) : EReal)

/-- The values beside 128 columns of ones. -/
def Wk (z : FVec Ideal S8x4096x22528 .f32) (b : Fin 8) (h : Fin 16) (k : ℕ) (j : Fin 256) : EReal :=
  if hj : j.val < 128 then zat z b k ⟨10240 + (h.val * 128 + j.val), by omega⟩ else 1

/-- The score of query row `n` and key `k`, as a real. -/
def sr (z : FVec Ideal S8x4096x22528 .f32) (c : FVec Ideal S8x16x4096 .f32) (b : Fin 8) (h : Fin 16) (n k : ℕ) : ℝ :=
  (∑ d : Fin 128, qr z b h n d * kr z b h k d) * (11863283 / 134217728) + (cr c b h n - cr c b h k)

/-- A sum of reals is the real sum. -/
theorem coe_sum128 (f : Fin 128 → ℝ) : ∑ d : Fin 128, ((f d : ℝ) : EReal) = ((∑ d : Fin 128, f d : ℝ) : EReal) :=
  (map_sum (⟨⟨Real.toEReal, EReal.coe_zero⟩, EReal.coe_add⟩ : ℝ →+ EReal) f Finset.univ).symm

/-- The kernel's masked score: the reference's score less the query's cumulative gate, over log 2. -/
theorem T_eq (z : FVec Ideal S8x4096x22528 .f32) (c : FVec Ideal S8x16x4096 .f32) (b : Fin 8) (h : Fin 16) (o i k : ℕ) :
    KernelIdeal.Value.T o (Qk z b h o) (Kk z b h) (Nk c b h) i k
    = if k ≤ o + i then (((sr z c b h (o + i) k - cr c b h (o + i)) * (Real.log 2)⁻¹ : ℝ) : EReal) else ⊥ := by
  unfold KernelIdeal.Value.T
  refine if_congr Iff.rfl ?_ rfl
  unfold sc Qk Kk Nk
  simp only [← EReal.coe_mul]
  rw [coe_sum128, ← EReal.coe_add]
  refine congrArg _ ?_
  have e : ∑ d : Fin 128, qr z b h (o + i) d * (11863283 / 134217728 * (Real.log 2)⁻¹) * kr z b h k d
      = (∑ d : Fin 128, qr z b h (o + i) d * kr z b h k d) * (11863283 / 134217728 * (Real.log 2)⁻¹) := by
    rw [Finset.sum_mul]
    exact Finset.sum_congr rfl fun d _ => by ring
  rw [e]
  unfold sr
  ring

/-- The kernel's masked scores are never +∞. -/
theorem T_ne (z : FVec Ideal S8x4096x22528 .f32) (c : FVec Ideal S8x16x4096 .f32) (b : Fin 8) (h : Fin 16) (o i k : ℕ) :
    KernelIdeal.Value.T o (Qk z b h o) (Kk z b h) (Nk c b h) i k ≠ ⊤ := by
  rw [T_eq z c b h o i k]
  split
  · exact EReal.coe_ne_top _
  · exact bot_ne_top

/-- What makes the scores finite: the queries, the keys and the cumulative gates are reals. -/
structure Fin' (z : FVec Ideal S8x4096x22528 .f32) (c : FVec Ideal S8x16x4096 .f32) : Prop where
  q : ∀ (b : Fin 8) (n : Fin 4096) (j : Fin 22528), 6144 ≤ j.val → j.val < 10240 → ((EReal.toReal (z (ix3 b n j)) : ℝ) : EReal) = z (ix3 b n j)
  c : ∀ (b : Fin 8) (h : Fin 16) (n : Fin 4096), ((EReal.toReal (c (ix3 b h n)) : ℝ) : EReal) = c (ix3 b h n)

variable {z : FVec Ideal S8x4096x22528 .f32} {c : FVec Ideal S8x16x4096 .f32}

/-- A row below 4096 is itself. -/
theorem row_mod (n : Fin 4096) : (⟨n.val % 4096, Nat.mod_lt _ (by decide)⟩ : Fin 4096) = n := Fin.ext (Nat.mod_eq_of_lt n.isLt)

/-- A query is its real. -/
theorem qr_eq (F : Fin' z c) (b : Fin 8) (h : Fin 16) (n : Fin 4096) (d : Fin 128) :
    ((qr z b h n.val d : ℝ) : EReal) = z (ix3 b n ⟨6144 + (h.val * 128 + d.val), by omega⟩) := by
  unfold qr zat
  rw [row_mod]
  exact F.q b n _ (by show 6144 ≤ 6144 + (h.val * 128 + d.val); omega) (by show 6144 + (h.val * 128 + d.val) < 10240; omega)

/-- A key is its real. -/
theorem kr_eq (F : Fin' z c) (b : Fin 8) (h : Fin 16) (n : Fin 4096) (d : Fin 128) :
    ((kr z b h n.val d : ℝ) : EReal) = z (ix3 b n ⟨8192 + (h.val * 128 + d.val), by omega⟩) := by
  unfold kr zat
  rw [row_mod]
  exact F.q b n _ (by show 6144 ≤ 8192 + (h.val * 128 + d.val); omega) (by show 8192 + (h.val * 128 + d.val) < 10240; omega)

/-- A cumulative gate is its real. -/
theorem cr_eq (F : Fin' z c) (b : Fin 8) (h : Fin 16) (n : Fin 4096) : ((cr c b h n.val : ℝ) : EReal) = c (ix3 b h n) := by
  unfold cr cat
  rw [row_mod]
  exact F.c b h n

/-- The reference's score is the real one where the key is seen, −∞ elsewhere. -/
theorem SCORE_eq (F : Fin' z c) (b : Fin 8) (h : Fin 16) (q k : Fin 4096) :
    SCORE z c (ix4 b h q k) = if k.val ≤ q.val then ((sr z c b h q.val k.val : ℝ) : EReal) else ⊥ := by
  rw [SCORE_at]
  refine if_congr Iff.rfl ?_ rfl
  unfold sr
  rw [EReal.coe_add, EReal.coe_mul, EReal.coe_sub, cr_eq F, cr_eq F, ← coe_sum128]
  refine congrArg₂ _ (congrArg₂ _ (Finset.sum_congr rfl fun d _ => ?_) rfl) rfl
  rw [EReal.coe_mul, qr_eq F, kr_eq F]

/-- The kernel's quotient is the reference's entry. -/
theorem attn (F : Fin' z c) (b : Fin 8) (h : Fin 16) (o : ℕ) (ho : o ≤ 2048) (i : Fin 2048) (q : Fin 4096) (hq : q.val = o + i.val) (d : Fin 128) :
    Ideal.div (ac (KernelIdeal.Value.T o (Qk z b h o) (Kk z b h) (Nk c b h) i.val) (fun k => Wk z b h k ⟨d.val, by omega⟩) (o + 2048))
      (ac (KernelIdeal.Value.T o (Qk z b h o) (Kk z b h) (Nk c b h) i.val) (fun k => Wk z b h k ⟨128 + d.val, by omega⟩) (o + 2048))
    = REF z c (ix3 b q ⟨h.val * 128 + d.val, by omega⟩) := by
  refine (quotient 4096 (o + 2048) q.val (by omega) (by omega) (fun k => sr z c b h q.val k) (cr c b h q.val) _
    (fun k => if k ≤ q.val then ((sr z c b h q.val k : ℝ) : EReal) else ⊥) _ _ (fun k => ?_) (fun k => rfl) (fun k hk => ?_)).trans ?_
  · rw [hq]; exact T_eq z c b h o i.val k
  · exact dif_neg (by show ¬ (128 + d.val < 128); omega)
  · have hM : MX z c (ix3 b h q) = max ⊥ (Finset.univ.fold max ⊥ fun y : Fin 4096 => if y.val ≤ q.val then ((sr z c b h q.val y.val : ℝ) : EReal) else ⊥) :=
      (MX_at z c b h q).trans (congrArg (fun f => max ⊥ (Finset.univ.fold max ⊥ f)) (funext fun y => SCORE_eq F b h q y))
    have hE : ∀ k : Fin 4096, EX z c (ix4 b h q k) = Ideal.exp ((if k.val ≤ q.val then ((sr z c b h q.val k.val : ℝ) : EReal) else ⊥)
        - max ⊥ (Finset.univ.fold max ⊥ fun y : Fin 4096 => if y.val ≤ q.val then ((sr z c b h q.val y.val : ℝ) : EReal) else ⊥)) := fun k => by
      rw [EX_at, hM, SCORE_eq F]
    refine Eq.symm ((REF_at z c b q h d).trans (Finset.sum_congr rfl fun k _ => ?_))
    refine congrArg₂ (· * ·) ((PR_at z c b h q k).trans (congrArg₂ _ (hE k) ((SM_at z c b h q).trans (congrArg (fun u => 0 + u) (Finset.sum_congr rfl fun y _ => hE y))))) ?_
    show z _ = dite _ _ _
    rw [dif_pos (show d.val < 128 from d.isLt)]
    unfold zat
    rw [row_mod]

end Cert.Proof.Fox

end
-- ==== Proof.Fox.lean ====
/- The value of the forgetting attention (`Kernel`): where queries, keys and cumulative gates are finite, the tiled online softmax
   holds, at every index, the reference's attention. -/
module

public import proofs.«01_k».proof.Proof.FoxCanon
public import proofs.«01_k».proof.Proof.Gen.Pre_finite_scores
public import proofs.«01_k».proof.Proof.FoxVal

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Proof.Online (ac)

open Cert.ReferenceIdeal.Value (REF)
open Cert.Proof.Fox (Fin' Qk Kk Nk Wk T_ne attn qr_eq kr_eq cr_eq)

variable (m : (ℓ : Loc nD τ sig) → Buf (Elt Ideal) ℓ)

/-- The projected activations. -/
abbrev Z (c : Dev nD) : FVec Ideal S8x4096x22528 .f32 := m ((c : Thread nD τ).loc main_arg0)

/-- The cumulative gates. -/
abbrev G (c : Dev nD) : FVec Ideal S8x16x4096 .f32 := m ((c : Thread nD τ).loc main_arg1)

/-- The block every window shows at grid point `t`: batch `t / 32`, head `t / 2 % 16`, query block `t % 2`; the queries' columns
    begin after 48 heads, the keys' after 64, the values' after 80. -/
theorem idx : ∀ t : Fin cfg0.N, win0_0.index t = ![t.val / 32, t.val % 2, 48 + t.val / 2 % 16] ∧ win0_1.index t = ![t.val / 32, 0, 64 + t.val / 2 % 16]
    ∧ win0_2.index t = ![t.val / 32, 0, 80 + t.val / 2 % 16] ∧ win0_3.index t = ![t.val / 32, t.val / 2 % 16, 0, 0]
    ∧ win0_4.index t = ![t.val / 32, t.val % 2, t.val / 2 % 16] :=
  (by decide +kernel : ∀ t : Fin grid0.N, _)

/-- The grid's last coordinate at point `t`. -/
theorem coord2 : ∀ t : Fin cfg0.N, ((grid0.coords t) 2).val = t.val % 2 :=
  (by decide +kernel : ∀ t : Fin grid0.N, _)

/-- A scaled query. -/
theorem pay31_at (x : FVec Ideal S1x2048x128 .f32) (j : Fin 2048) (d : Fin 128) :
    k0_pay31 (F := Ideal) x (ix3 0 j d) = x (ix3 0 j d) * ((11863283 / 134217728 * (Real.log 2)⁻¹ : ℝ) : EReal) := by
  pointwise [k0_pay31]
  refine congrArg (fun u => x (ix3 0 j d) * u) ?_
  exact IdealRules.named_const.ideal_named_scalar _ _ _ _ rfl

/-- The negated cumulative gates as the kernel is given them. -/
theorem V_nc (c : Dev nD) : @Eq (FVec Ideal S8x16x1x4096 .f32) (V m c main_v1) (shapeCast _ (Host.negf (G m c)) shapeCasts_S8x16x4096_S8x16x1x4096) := by
  entry_read
  rfl

/-- The batch of grid point `t`. -/
def bt (t : Fin cfg0.N) : Fin 8 := ⟨t.val / 32, by have : t.val < 256 := t.isLt; omega⟩

/-- The head of grid point `t`. -/
def ht (t : Fin cfg0.N) : Fin 16 := ⟨t.val / 2 % 16, by omega⟩

/-- The query block. -/
theorem blk0 (c : Dev nD) (t : Fin cfg0.N) (j : Fin 2048) (d : Fin 128) :
    @Eq EReal (iblk m c 0 t (ix3 0 j d)) (Z m c (ix3 (bt t) ⟨2048 * (t.val % 2) + j.val, by omega⟩ ⟨6144 + ((ht t).val * 128 + d.val), by omega⟩)) := by
  blk_ext [iblk, V, idx t, bt, ht]

/-- The key block. -/
theorem blk1 (c : Dev nD) (t : Fin cfg0.N) (k : Fin 4096) (d : Fin 128) :
    @Eq EReal (iblk m c 1 t (ix3 0 k d)) (Z m c (ix3 (bt t) k ⟨8192 + ((ht t).val * 128 + d.val), by omega⟩)) := by
  blk_ext [iblk, V, idx t, bt, ht]

/-- The value block. -/
theorem blk2 (c : Dev nD) (t : Fin cfg0.N) (k : Fin 4096) (d : Fin 128) :
    @Eq EReal (iblk m c 2 t (ix3 0 k d)) (Z m c (ix3 (bt t) k ⟨10240 + ((ht t).val * 128 + d.val), by omega⟩)) := by
  blk_ext [iblk, V, idx t, bt, ht]

/-- The reshaped, negated gates at an index. -/
theorem nc_at (g : FVec Ideal S8x16x4096 .f32) (b : Fin 8) (h : Fin 16) (k : Fin 4096) :
    @Eq EReal ((shapeCast S8x16x1x4096 (Host.negf g) shapeCasts_S8x16x4096_S8x16x1x4096 : FVec Ideal S8x16x1x4096 .f32) (ix4 b h 0 k)) (-(g (ix3 b h k))) := by
  pointwise []

/-- The block of negated cumulative gates. -/
theorem blk3 (c : Dev nD) (t : Fin cfg0.N) (k : Fin 4096) :
    @Eq EReal (iblk m c 3 t (ix4 0 0 0 k)) (-(G m c (ix3 (bt t) (ht t) k))) := by
  refine Eq.trans ?_ ((congrFun (V_nc m c) (ix4 (bt t) (ht t) 0 k)).trans (nc_at _ _ _ _))
  blk_ext [iblk, idx t, bt, ht]

/-- After a head's first query block the scratch of keys holds its keys, transposed. -/
theorem scr0 (c : Dev nD) (t : Fin cfg0.N) (h0 : t.val % 2 = 0) (d : Fin 128) (k : Fin 4096) :
    @Eq EReal ((outsAt0 m c t.val t.isLt).2.1 (ix3 0 d k)) (iblk m c 1 t (ix3 0 k d)) := by
  rw [outsAt0_A m c t h0]
  dsimp only
  unfold sout0_A_0 kernelRun0_A
  dsimp only
  rw [View.read_writes_junk_eq_canon]
  exact canon_keys c (ms0_1 t) (hs0_1 t) (iblk m c 1 t) d k

/-- After a head's first query block the scratch of values holds its values and ones. -/
theorem scr1 (c : Dev nD) (t : Fin cfg0.N) (h0 : t.val % 2 = 0) (k : Fin 4096) (j : Fin 256) :
    @Eq EReal ((outsAt0 m c t.val t.isLt).2.2 (ix3 0 k j)) (if h : j.val < 128 then iblk m c 2 t (ix3 0 k ⟨j.val, h⟩) else 1) := by
  rw [outsAt0_A m c t h0]
  dsimp only
  unfold sout0_A_1 kernelRun0_A
  dsimp only
  rw [View.read_writes_junk_eq_canon]
  exact canon_vals c (ms0_2 t) (hs0_2 t) (iblk m c 2 t) j k

variable {m}

/-- The queries the body multiplies with, on finite arguments. -/
theorem hQ {c : Dev nD} (F : Fin' (Z m c) (G m c)) (t : Fin cfg0.N) (j : Fin 2048) (d : Fin 128) :
    k0_pay31 (F := Ideal) (iblk m c 0 t) (ix3 0 j d) = Qk (Z m c) (bt t) (ht t) (2048 * ((grid0.coords t) 2).val) j.val d := by
  rw [pay31_at, coord2 t]
  refine (congrArg (fun u : EReal => u * ((11863283 / 134217728 * (Real.log 2)⁻¹ : ℝ) : EReal)) (blk0 m c t j d)).trans ?_
  unfold Qk
  rw [EReal.coe_mul]
  exact congrArg (fun u : EReal => u * ((11863283 / 134217728 * (Real.log 2)⁻¹ : ℝ) : EReal)) (qr_eq F (bt t) (ht t) ⟨2048 * (t.val % 2) + j.val, by omega⟩ d).symm

/-- The keys it multiplies them with. -/
theorem hK {c : Dev nD} (F : Fin' (Z m c) (G m c)) (t : Fin cfg0.N) (d : Fin 128) (k : Fin 4096) :
    @Eq EReal (iblk m c 1 t (ix3 0 k d)) (Kk (Z m c) (bt t) (ht t) k.val d) :=
  (blk1 m c t k d).trans (kr_eq F (bt t) (ht t) k d).symm

/-- The negated gates it adds. -/
theorem hN {c : Dev nD} (F : Fin' (Z m c) (G m c)) (t : Fin cfg0.N) (k : Fin 4096) :
    @Eq EReal (iblk m c 3 t (ix4 0 0 0 k)) (Nk (G m c) (bt t) (ht t) k.val) := by
  refine (blk3 m c t k).trans ?_
  unfold Nk
  rw [EReal.coe_neg]
  exact congrArg (fun u : EReal => -u) (cr_eq F (bt t) (ht t) k).symm

/-- The values and ones it weighs. -/
theorem hV (c : Dev nD) (t : Fin cfg0.N) (k : Fin 4096) (j : Fin 256) :
    @Eq EReal (if h : j.val < 128 then iblk m c 2 t (ix3 0 k ⟨j.val, h⟩) else 1) (Wk (Z m c) (bt t) (ht t) k.val j) := by
  unfold Wk
  by_cases h : j.val < 128
  · rw [dif_pos h, dif_pos h]
    refine (blk2 m c t k ⟨j.val, h⟩).trans ?_
    unfold Cert.Proof.Fox.zat
    rw [Cert.Proof.Fox.row_mod]
  · rw [dif_neg h, dif_neg h]

/-- What the body leaves at row `j` and column `d` of its block is the reference there. -/
theorem goal_at {c : Dev nD} (F : Fin' (Z m c) (G m c)) (t : Fin cfg0.N) (j : Fin 2048) (d : Fin 128) :
    Ideal.div (ac (KernelIdeal.Value.T (2048 * ((grid0.coords t) 2).val) (Qk (Z m c) (bt t) (ht t) (2048 * ((grid0.coords t) 2).val)) (Kk (Z m c) (bt t) (ht t)) (Nk (G m c) (bt t) (ht t)) j.val)
        (fun k => Wk (Z m c) (bt t) (ht t) k ⟨d.val, by omega⟩) (2048 * ((grid0.coords t) 2).val + 2048))
      (ac (KernelIdeal.Value.T (2048 * ((grid0.coords t) 2).val) (Qk (Z m c) (bt t) (ht t) (2048 * ((grid0.coords t) 2).val)) (Kk (Z m c) (bt t) (ht t)) (Nk (G m c) (bt t) (ht t)) j.val)
        (fun k => Wk (Z m c) (bt t) (ht t) k ⟨128 + d.val, by omega⟩) (2048 * ((grid0.coords t) 2).val + 2048))
    = REF (Z m c) (G m c) (((cfg0.win 4).blk t).view.emb (ix3 0 j d)) := by
  have e4 : ((cfg0.win 4).blk t).view.emb (ix3 0 j d) = ix3 (bt t) (⟨2048 * (t.val % 2) + j.val, by omega⟩ : Fin 4096) (⟨(ht t).val * 128 + d.val, by omega⟩ : Fin 2048) := by
    blk_ext [idx t, bt, ht]
  rw [e4, coord2 t]
  exact attn F (bt t) (ht t) (2048 * (t.val % 2)) (by omega) j ⟨2048 * (t.val % 2) + j.val, by omega⟩ rfl d

/-- The result array is the reference's. -/
theorem final (c : Dev nD) (F : Fin' (Z m c) (G m c)) : (dats m 0 c).arrAt 4 (cfgs 0).N = REF (Z m c) (G m c) := by
  refine (dats m 0 c).arrAt_eq_of_covers 4 _ (by decide +kernel) fun t _ y => ?_
  idx_vars y
  match y0 with
  | 0 =>
    refine Eq.trans ?_ (goal_at F t y1 y2)
    blk_simp
    rw [after0_4]
    by_cases h0 : t.val % 2 = 0
    · rw [outsAt0_A m c t h0]
      dsimp only
      unfold out0_A_4 kernelRun0_A
      dsimp only
      rw [View.read_writes_junk_eq_canon]
      refine (canon_one _ _ _ y1 y2).trans ?_
      refine out_A _ _ _ _ c (grid0.coords t) (fun i k => T_ne _ _ _ _ _ i k) _ _ _ _ _ _ _ _ _ _ _ _ _ _ _ _ _ _ _ _ _ _ _ _ (hQ F t) (fun d k => ?_) (hN F t) (fun k j => ?_) y1 y2
      · exact (canon_keys c _ _ _ d k).trans (hK F t d k)
      · exact (canon_vals c _ _ _ j k).trans (hV c t k j)
    · rw [outsAt0_B m c t h0]
      dsimp only
      unfold out0_B_4 kernelRun0_B
      dsimp only
      rw [View.read_writes_junk_eq_canon]
      refine (canon_one _ _ _ y1 y2).trans ?_
      have hb : bt ⟨t.val - 1, lt_of_le_of_lt (Nat.sub_le _ _) t.isLt⟩ = bt t := Fin.ext (by show (t.val - 1) / 32 = t.val / 32; omega)
      have hh : ht ⟨t.val - 1, lt_of_le_of_lt (Nat.sub_le _ _) t.isLt⟩ = ht t := Fin.ext (by show (t.val - 1) / 2 % 16 = t.val / 2 % 16; omega)
      have h1 : (⟨t.val - 1, lt_of_le_of_lt (Nat.sub_le _ _) t.isLt⟩ : Fin cfg0.N).val % 2 = 0 := by show (t.val - 1) % 2 = 0; omega
      refine out_B _ _ _ _ c (grid0.coords t) (fun i k => T_ne _ _ _ _ _ i k) _ _ _ _ _ _ _ _ _ _ _ _ _ _ _ _ _ _ _ _ _ _ _ _ (hQ F t) (fun d k => ?_) (hN F t) (fun k j => ?_) y1 y2
      · refine (scr0 m c ⟨t.val - 1, _⟩ h1 d k).trans ((hK F ⟨t.val - 1, _⟩ d k).trans ?_)
        rw [hb, hh]
      · refine (scr1 m c ⟨t.val - 1, _⟩ h1 k j).trans ((hV c ⟨t.val - 1, _⟩ k j).trans ?_)
        rw [hb, hh]

end Cert.KernelIdeal.Value

namespace Cert.Proof.Fox

open Cert.ReferenceIdeal (S8x4096x22528 S8x16x4096)
open Cert.ReferenceIdeal.Value (REF)

/-- The word of +∞. -/
theorem top_eq : Ideal.ofBits .f32 0x7F800000#32 = (⊤ : EReal) := by
  simp [Ideal.ofBits, Ideal.ieee]

/-- A number whose absolute value is below +∞ is a real. -/
theorem real_of_abs (x : EReal) (h : BitVec.ofBool (decide (max x (-x) < Ideal.ofBits .f32 0x7F800000#32)) = 1#1) :
    ((EReal.toReal x : ℝ) : EReal) = x := by
  rw [top_eq] at h
  have h1 : max x (-x) < ⊤ := by
    by_contra hn
    rw [decide_eq_false hn] at h
    exact absurd h (by decide)
  refine EReal.coe_toReal (fun e => ?_) (fun e => ?_)
  · rw [e] at h1; exact absurd h1 (by simp)
  · rw [e] at h1; exact absurd h1 (by simp)

/-- The precondition's first result at an index. -/
theorem pre1 (z : FVec Ideal S8x4096x22528 .f32) (c : FVec Ideal S8x16x4096 .f32) (b : Fin 8) (n j : Fin 4096) :
    (Cert.Pre_finite_scores.fn (F := Ideal) z c).1 (ix3 b n j)
    = BitVec.ofBool (decide ((max (z (ix3 b n ⟨6144 + j.val, by omega⟩)) (-(z (ix3 b n ⟨6144 + j.val, by omega⟩))) : EReal) < Ideal.ofBits .f32 0x7F800000#32)) := by
  unfold Cert.Pre_finite_scores.fn
  dsimp only
  pointwise []
  rfl

/-- The precondition's second result at an index. -/
theorem pre2 (z : FVec Ideal S8x4096x22528 .f32) (c : FVec Ideal S8x16x4096 .f32) (b : Fin 8) (h : Fin 16) (n : Fin 4096) :
    (Cert.Pre_finite_scores.fn (F := Ideal) z c).2 (ix3 b h n)
    = BitVec.ofBool (decide ((max (c (ix3 b h n)) (-(c (ix3 b h n))) : EReal) < Ideal.ofBits .f32 0x7F800000#32)) := by
  unfold Cert.Pre_finite_scores.fn
  dsimp only
  pointwise []
  rfl

/-- The precondition makes the queries, the keys and the cumulative gates reals. -/
theorem fin_of_pre (z : FVec Ideal S8x4096x22528 .f32) (c : FVec Ideal S8x16x4096 .f32)
    (h1 : (Cert.Pre_finite_scores.fn (F := Ideal) z c).1 = fun _ => 1#1) (h2 : (Cert.Pre_finite_scores.fn (F := Ideal) z c).2 = fun _ => 1#1) : Fin' z c := by
  refine ⟨fun b n j hj hj' => ?_, fun b h n => ?_⟩
  · have e := (pre1 z c b n ⟨j.val - 6144, by omega⟩).symm.trans (congrFun h1 _)
    have ej : (⟨6144 + (j.val - 6144), by omega⟩ : Fin 22528) = j := Fin.ext (by show 6144 + (j.val - 6144) = j.val; omega)
    rw [ej] at e
    exact real_of_abs _ e
  · exact real_of_abs _ ((pre2 z c b h n).symm.trans (congrFun h2 _))

/-- At `Ideal`, with finite queries, keys and cumulative gates, the attention kernel and its reference end with equal results
    whenever their arguments agree. -/
theorem algebraic : Cert.algebraic_KernelIdeal_ReferenceIdeal_pre_finite_scores := by
  intro m g m' g' hpre hag
  refine ⟨_, Cert.KernelIdeal.Value.run_blocks m g, ?_⟩
  refine (θ_run Cert.ReferenceIdeal.defs _ _).mono (fun _ h c => ⟨(h c).1.trans ?_, (h c).2⟩)
    (Cert.ReferenceIdeal.Value.run m' g')
  have F := fin_of_pre _ _ (hpre c).1 (hpre c).2
  refine (Cert.ReferenceIdeal.Value.res_eq m' c).trans ?_
  rw [(hag c).1, (hag c).2]
  exact (Cert.KernelIdeal.Value.final c F).symm

end Cert.Proof.Fox

end
-- ==== Proof.Norm.lean ====
/- The normalisation of a row of 2048 numbers, as the two output norms and their references spell it. -/
module

public import Idealize.ShloMosaic.Lib.Pointwise

@[expose] public section

noncomputable section

open Idealize.ShloMosaic

namespace Cert.Norm

/-- The mean of a row. -/
def mean (x : Fin 2048 → EReal) : EReal := Ideal.div (∑ k, x k) (Ideal.ofBits .f32 0x45000000#32)

/-- A row's entry `j`, shifted by the mean, divided by the deviation, scaled by `g` and shifted by `b`. -/
def ln (x : Fin 2048 → EReal) (g b : EReal) (j : Fin 2048) : EReal :=
  (x j - mean x) * Ideal.rsqrt (mean (fun k => (x k - mean x) * (x k - mean x)) + Ideal.ofBits .f32 0x3727C5AC#32) * g + b

end Cert.Norm

end
-- ==== Proof.OutLn.lean ====
/- The value of the output projection with its norm (`Kernel4`): both results, the normalised rows and their half-width copy, hold
   at every index what the reference's hold. -/
module

public import proofs.«01_k».proof.Defs
public import proofs.«01_k».proof.Proof.Norm
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference4Ideal.Value

open Cert.Reference4Ideal Cert.Reference4Ideal.Gen

/-- The row means of an array. -/
def MEAN (x : FVec Ideal S32768x2048 .f32) : FVec Ideal S32768x1 .f32 :=
  Host.divf (broadcastInDim S32768x1 ![0] bcast_S32768_S32768x1_0 (Host.reduceAdd x (constant S_ .f32 0x00000000#32) reducesTo_S32768x2048_S32768_d1 h_S_)) (broadcastInDim S32768x1 ![] bcast_S_S32768x1 (constant S_ .f32 0x45000000#32))

/-- A mean at its row. -/
theorem MEAN_at (x : FVec Ideal S32768x2048 .f32) (r : Fin 32768) : MEAN x (ix2 r 0) = Norm.mean fun k => x (ix2 r k) := by
  pointwise [MEAN]
  rfl

/-- An array less its row means. -/
def CENT (x : FVec Ideal S32768x2048 .f32) : FVec Ideal S32768x2048 .f32 :=
  subf x (broadcastInDim S32768x2048 ![0, 1] bcast_S32768x1_S32768x2048_0_1 (MEAN x))

/-- The centred array at row `r` and column `j`. -/
theorem CENT_at (x : FVec Ideal S32768x2048 .f32) (r : Fin 32768) (j : Fin 2048) :
    CENT x (ix2 r j) = x (ix2 r j) - Norm.mean fun k => x (ix2 r k) := by
  pointwise [CENT]
  rw [MEAN_at]

/-- The rows that are normalised: the scaled residual and the projection. -/
def SUM (a : FVec Ideal S32768x2048 .bf16) (w : FVec Ideal S2048x2048 .f32) (h : FVec Ideal S32768x2048 .f32) : FVec Ideal S32768x2048 .f32 :=
  addf (mulf (broadcastInDim S32768x2048 ![] bcast_S_S32768x2048 (constant S_ .f32 0x3FD744FD#32)) h) (Host.dotGeneral dot_S32768x2048_S2048x2048_S32768x2048_1_0_0_1_n_n none a w)

/-- Such a row at column `j`. -/
theorem SUM_at (a : FVec Ideal S32768x2048 .bf16) (w : FVec Ideal S2048x2048 .f32) (h : FVec Ideal S32768x2048 .f32) (r : Fin 32768) (j : Fin 2048) :
    SUM a w h (ix2 r j) = Ideal.ofBits .f32 0x3FD744FD#32 * h (ix2 r j) + ∑ k : Fin 2048, a (ix2 r k) * w (ix2 k j) := by
  pointwise [SUM]

/-- The normalisation of all rows of an array. -/
def LNR (x : FVec Ideal S32768x2048 .f32) (g b : FVec Ideal S2048 .f32) : FVec Ideal S32768x2048 .f32 :=
  addf (mulf (mulf (CENT x) (broadcastInDim S32768x2048 ![0, 1] bcast_S32768x1_S32768x2048_0_1 (Host.rsqrt (addf (MEAN (mulf (CENT x) (CENT x))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 g))) (broadcastInDim S32768x2048 ![0, 1] bcast_S1x2048_S32768x2048_0_1 (broadcastInDim S1x2048 ![1] bcast_S2048_S1x2048_1 b))

/-- The normalisation at row `r` and column `j`. -/
theorem LNR_at (x : FVec Ideal S32768x2048 .f32) (g b : FVec Ideal S2048 .f32) (r : Fin 32768) (j : Fin 2048) :
    LNR x g b (ix2 r j) = Norm.ln (fun k => x (ix2 r k)) (g (ix1 j)) (b (ix1 j)) j := by
  pointwise [LNR]
  rw [CENT_at, MEAN_at]
  have e : (fun k => mulf (CENT x) (CENT x) (ix2 r k)) = fun k => (x (ix2 r k) - Norm.mean fun k => x (ix2 r k)) * (x (ix2 r k) - Norm.mean fun k => x (ix2 r k)) :=
    funext fun k => congrArg₂ (· * ·) (CENT_at x r k) (CENT_at x r k)
  rw [e]
  rfl

/-- The reference's first result as a function of its arguments. -/
def REF (a : FVec Ideal S32768x2048 .bf16) (w : FVec Ideal S2048x2048 .f32) (h : FVec Ideal S32768x2048 .f32) (g b : FVec Ideal S2048 .f32) :
    FVec Ideal S32768x2048 .f32 := LNR (SUM a w h) g b

/-- The reference at row `r` and column `j`. -/
theorem REF_at (a : FVec Ideal S32768x2048 .bf16) (w : FVec Ideal S2048x2048 .f32) (h : FVec Ideal S32768x2048 .f32) (g b : FVec Ideal S2048 .f32)
    (r : Fin 32768) (j : Fin 2048) :
    REF a w h g b (ix2 r j) = Norm.ln (fun k => Ideal.ofBits .f32 0x3FD744FD#32 * h (ix2 r k) + ∑ l : Fin 2048, a (ix2 r l) * w (ix2 l k)) (g (ix1 j)) (b (ix1 j)) j :=
  (LNR_at _ g b r j).trans (congrArg (fun f => Norm.ln f (g (ix1 j)) (b (ix1 j)) j) (funext fun k => SUM_at a w h r k))

end Cert.Reference4Ideal.Value

namespace Cert.Kernel4Ideal.Value

open Cert.Kernel4Ideal Cert.Kernel4Ideal.Gen
open Cert.Reference4Ideal.Value (REF REF_at)

variable (m : (ℓ : Loc nD τ sig) → Buf (Elt Ideal) ℓ)

/-- The block every window shows at grid point `t`: row block `t` of the activations, the whole of the weights. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The body's stored value at row `r` and column `j` of its block. -/
theorem pay_at (x0 : FVec Ideal S512x2048 .bf16) (x1 : FVec Ideal S2048x2048 .bf16) (x2 : FVec Ideal S512x2048 .f32) (x3 x4 : FVec Ideal S1x2048 .f32)
    (r : Fin 512) (j : Fin 2048) :
    k0_pay1 (F := Ideal) x0 x1 x2 x3 x4 (ix2 r j)
    = Norm.ln (fun k => Ideal.ofBits .f32 0x3FD744FD#32 * x2 (ix2 r k) + ∑ l : Fin 2048, x0 (ix2 r l) * x1 (ix2 l k)) (x3 (ix2 0 j)) (x4 (ix2 0 j)) j := by
  pointwise [k0_pay1]
  rfl

/-- The weights as the kernel is given them: the argument. -/
theorem V_w (c : Dev nD) : @Eq (FVec Ideal S2048x2048 .bf16) (V m c main_v0) (truncf .bf16 (m ((c : Thread nD τ).loc main_arg1) : FVec Ideal S2048x2048 .f32) bitsLt_bf16_f32) := by
  entry_read
  rfl

/-- The scale as the kernel is given it: the argument as a row. -/
theorem V_g (c : Dev nD) : @Eq (FVec Ideal S1x2048 .f32) (V m c main_v1) (shapeCast S1x2048 (m ((c : Thread nD τ).loc main_arg3) : FVec Ideal S2048 .f32) shapeCasts_S2048_S1x2048) := by
  entry_read
  rfl

/-- The shift as the kernel is given it: the argument as a row. -/
theorem V_b (c : Dev nD) : @Eq (FVec Ideal S1x2048 .f32) (V m c main_v2) (shapeCast S1x2048 (m ((c : Thread nD τ).loc main_arg4) : FVec Ideal S2048 .f32) shapeCasts_S2048_S1x2048) := by
  entry_read
  rfl

/-- A vector read as a row. -/
theorem row_at (g : FVec Ideal S2048 .f32) (j : Fin 2048) : shapeCast S1x2048 g shapeCasts_S2048_S1x2048 (ix2 0 j) = g (ix1 j) := by
  pointwise []

/-- What the body stores at row `y0` and column `y1` of point `t` is the reference at the array index where the block's index sits. -/
theorem point (c : Dev nD) (t : Fin cfg0.N) (y0 : Fin 512) (y1 : Fin 2048) (hr : t.val * 512 + y0.val < 32768) :
    k0_pay1 (F := Ideal) (iblk m c 0 t) (iblk m c 1 t) (iblk m c 2 t) (iblk m c 3 t) (iblk m c 4 t) (ix2 y0 y1)
    = REF (m ((c : Thread nD τ).loc main_arg0)) (m ((c : Thread nD τ).loc main_arg1)) (m ((c : Thread nD τ).loc main_arg2))
        (m ((c : Thread nD τ).loc main_arg3)) (m ((c : Thread nD τ).loc main_arg4)) (ix2 (⟨t.val * 512 + y0.val, hr⟩ : Fin 32768) y1) := by
  refine (pay_at _ _ _ _ _ y0 y1).trans (Eq.trans ?_ (REF_at _ _ _ _ _ _ _).symm)
  have ex : ∀ k : Fin 2048, @Eq EReal ((iblk m c 2 t : FVec Ideal S512x2048 .f32) (ix2 y0 k)) ((m ((c : Thread nD τ).loc main_arg2) : FVec Ideal S32768x2048 .f32) (ix2 ⟨t.val * 512 + y0.val, hr⟩ k)) := fun k => by
    blk_ext [iblk, V, idx t]
  have ea : ∀ k : Fin 2048, @Eq EReal ((iblk m c 0 t : FVec Ideal S512x2048 .bf16) (ix2 y0 k)) ((m ((c : Thread nD τ).loc main_arg0) : FVec Ideal S32768x2048 .bf16) (ix2 ⟨t.val * 512 + y0.val, hr⟩ k)) := fun k => by
    blk_ext [iblk, V, idx t]
  have ew : ∀ l k : Fin 2048, @Eq EReal ((iblk m c 1 t : FVec Ideal S2048x2048 .bf16) (ix2 l k)) ((m ((c : Thread nD τ).loc main_arg1) : FVec Ideal S2048x2048 .f32) (ix2 l k)) := fun l k => by
    refine Eq.trans ?_ (congrFun (V_w m c) (ix2 l k))
    blk_ext [iblk, idx t]
  have eg : @Eq EReal ((iblk m c 3 t : FVec Ideal S1x2048 .f32) (ix2 0 y1)) ((m ((c : Thread nD τ).loc main_arg3) : FVec Ideal S2048 .f32) (ix1 y1)) := by
    refine Eq.trans ?_ ((congrFun (V_g m c) (ix2 0 y1)).trans (row_at _ y1))
    blk_ext [iblk, idx t]
  have eb : @Eq EReal ((iblk m c 4 t : FVec Ideal S1x2048 .f32) (ix2 0 y1)) ((m ((c : Thread nD τ).loc main_arg4) : FVec Ideal S2048 .f32) (ix1 y1)) := by
    refine Eq.trans ?_ ((congrFun (V_b m c) (ix2 0 y1)).trans (row_at _ y1))
    blk_ext [iblk, idx t]
  refine (congrArg₂ (fun g b => Norm.ln _ g b y1) eg eb).trans (congrArg (fun f => Norm.ln f _ _ y1) (funext fun k => ?_))
  exact congrArg₂ (· + ·) (congrArg (Ideal.ofBits .f32 0x3FD744FD#32 * ·) (ex k)) (Finset.sum_congr rfl fun l _ => congrArg₂ (· * ·) (ea l) (ew l k))

/-- The first result array is the reference's. -/
theorem final5 (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  idx_vars y
  have ht : t.val < 64 := t.isLt
  have hr : t.val * 512 + y0.val < 32768 := by omega
  have e : ((cfg0.win 5).blk t).view.emb (ix2 y0 y1) = ix2 (⟨t.val * 512 + y0.val, hr⟩ : Fin 32768) y1 := by
    blk_ext [idx t]
  rw [e]
  exact point m c t y0 y1 hr

/-- The second result array is the reference's first one, rounded to half the width (nothing, in exact numbers). -/
theorem final6 (c : Dev nD) : (dats m 0 c).arrAt 6 (cfgs 0).N
    = (truncf .bf16 (REF (m ((c : Thread nD τ).loc main_arg0)) (m ((c : Thread nD τ).loc main_arg1)) (m ((c : Thread nD τ).loc main_arg2))
        (m ((c : Thread nD τ).loc main_arg3)) (m ((c : Thread nD τ).loc main_arg4))) bitsLt_bf16_f32 : FVec Ideal S32768x2048 .bf16) := by
  refine (dats m 0 c).arrAt_eq_of_covers 6 _ (by decide +kernel) fun t _ y => ?_
  blk_simp
  rw [after0_6]; frame_out
  idx_vars y
  have ht : t.val < 64 := t.isLt
  have hr : t.val * 512 + y0.val < 32768 := by omega
  have e : ((cfg0.win 6).blk t).view.emb (ix2 y0 y1) = ix2 (⟨t.val * 512 + y0.val, hr⟩ : Fin 32768) y1 := by
    blk_ext [idx t]
  rw [e]
  exact point m c t y0 y1 hr

end Cert.Kernel4Ideal.Value

namespace Cert.Proof.OutLn

/-- At `Ideal` the output projection with its norm and its reference end with equal results whenever their arguments agree. -/
theorem algebraic : Cert.algebraic_Kernel4Ideal_Reference4Ideal := by
  intro m g m' g' _ hag
  refine ⟨_, _, Cert.Kernel4Ideal.Value.run_blocks m g, ?_⟩
  refine (θ_run Cert.Reference4Ideal.defs _ _).mono (fun _ h c => ⟨(h c).1.trans ?_, (h c).2.1.trans ?_, (h c).2.2⟩)
    (Cert.Reference4Ideal.Value.run m' g')
  · rw [(hag c).1, (hag c).2.1, (hag c).2.2.1, (hag c).2.2.2.1, (hag c).2.2.2.2]
    exact (Cert.Kernel4Ideal.Value.final5 m c).symm
  · rw [(hag c).1, (hag c).2.1, (hag c).2.2.1, (hag c).2.2.2.1, (hag c).2.2.2.2]
    exact (Cert.Kernel4Ideal.Value.final6 m c).symm

end Cert.Proof.OutLn

end
-- ==== Proof.Words.lean ====
/- Two half-width numbers in one 32-bit word: what the halves denote, read as half-width numbers or as full-width ones with
   sixteen zero bits behind. -/
module

public import Idealize.ShloMosaic.Lib.Pointwise

@[expose] public section

noncomputable section

open Idealize.ShloMosaic

namespace Cert.Words

/-- Sixteen zero bits behind a half-width number leave what it denotes. -/
theorem ieee_widen (v : BitVec 32) (b : BitVec 16) (h0 : v.toNat = b.toNat * 65536) : Ideal.ieee 8 23 v = Ideal.ieee 8 7 b := by
  have en : v.extractLsb' 31 1 = b.extractLsb' 15 1 := by
    apply BitVec.eq_of_toNat_eq
    simp only [BitVec.extractLsb'_toNat, Nat.shiftRight_eq_div_pow, h0]
    omega
  have ee : (v.extractLsb' 23 8).toNat = (b.extractLsb' 7 8).toNat := by
    simp only [BitVec.extractLsb'_toNat, Nat.shiftRight_eq_div_pow, h0]
    omega
  have ef : (v.extractLsb' 0 23).toNat = (b.extractLsb' 0 7).toNat * 65536 := by
    simp only [BitVec.extractLsb'_toNat, Nat.shiftRight_eq_div_pow, h0]
    omega
  unfold Ideal.ieee
  dsimp only
  rw [show 8 + 23 = 31 from rfl, show 8 + 7 = 15 from rfl, en, ee, ef]
  generalize b.extractLsb' 15 1 = s
  generalize (b.extractLsb' 7 8).toNat = e
  generalize (b.extractLsb' 0 7).toNat = f
  have p : ∀ z : Int, (2 : ℝ) ^ (z - (7 : ℕ)) = 65536 * (2 : ℝ) ^ (z - (23 : ℕ)) := fun z => by
    rw [show z - ((7 : ℕ) : Int) = (z - ((23 : ℕ) : Int)) + 16 by push_cast; ring, zpow_add₀ (by norm_num)]
    norm_num
    ring
  have hf : (f * 65536 = 0) = (f = 0) := by simp
  simp only [hf]
  split_ifs <;> first | rfl | skip
  all_goals
    rw [p]
    congr 1
    push_cast
    ring

/-- The low half of a word, moved up. -/
theorem low (u : BitVec 32) : Ideal.ofBits .f32 (u <<< 16) = Ideal.ofBits .bf16 (u.extractLsb' 0 16) := by
  refine ieee_widen _ _ ?_
  simp only [BitVec.extractLsb'_toNat, BitVec.toNat_shiftLeft, Nat.shiftLeft_eq, Nat.shiftRight_eq_div_pow]
  omega

/-- The high half of a word, the low one masked off. -/
theorem high (u : BitVec 32) : Ideal.ofBits .f32 (u &&& 0xFFFF0000#32) = Ideal.ofBits .bf16 (u.extractLsb' 16 16) := by
  have e : u &&& 0xFFFF0000#32 = (u >>> 16) <<< 16 := by
    apply BitVec.eq_of_getLsbD_eq
    intro i hi
    simp only [BitVec.getLsbD_and, BitVec.getLsbD_shiftLeft, BitVec.getLsbD_ushiftRight]
    interval_cases i <;> simp
  rw [e]
  refine ieee_widen _ _ ?_
  simp only [BitVec.extractLsb'_toNat, BitVec.toNat_shiftLeft, BitVec.toNat_ushiftRight, Nat.shiftLeft_eq, Nat.shiftRight_eq_div_pow]
  have := u.isLt
  omega

/-- A row of half-width numbers kept two to a word: the first half of the row lies in the words' low halves, the second in the
    high ones. -/
def half (u : Fin 1024 → BitVec 32) (j : Fin 2048) : EReal :=
  if h : j.val < 1024 then Ideal.ofBits .bf16 ((u ⟨j.val, h⟩).extractLsb' 0 16)
  else Ideal.ofBits .bf16 ((u ⟨j.val - 1024, by omega⟩).extractLsb' 16 16)

end Cert.Words

end
-- ==== Proof.SharedLn.lean ====
/- The value of the shared expert with the second norm (`Kernel6`): both results, the normalised rows and their half-width copy,
   hold at every index what the reference's hold. -/
module

public import proofs.«01_k».proof.Defs
public import proofs.«01_k».proof.Proof.OutLn
public import proofs.«01_k».proof.Proof.Words
public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.BitcastConvert
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SharedRow

/-- A hidden unit of the shared expert: the gate through `g / (1 + e ^ (-g))`, times the other projection. -/
def act (x wg wu : Fin 2048 → EReal) : EReal :=
  (∑ k, x k * wg k) * Ideal.div 1 (1 + Ideal.exp (-∑ k, x k * wg k)) * ∑ k, x k * wu k

/-- The row that is normalised: the scaled residual, the six routed rows in their weights, and the shared expert. -/
def row (x : Fin 2048 → EReal) (wt : Fin 6 → EReal) (u : Fin 6 → Fin 1024 → BitVec 32) (wg wu : Fin 256 → Fin 2048 → EReal)
    (wd : Fin 256 → Fin 2048 → EReal) (j : Fin 2048) : EReal :=
  Ideal.ofBits .f32 0x3FD744FD#32 * x j + ((∑ k, wt k * Words.half (u k) j) + ∑ f, act x (wg f) (wu f) * wd f j)

end Cert.SharedRow

namespace Cert.Reference6Ideal.Value

open Cert.Reference6Ideal Cert.Reference6Ideal.Gen
open Cert.Reference4Ideal.Value (LNR LNR_at)

/-- One of the two projections of the shared expert. -/
def PROJ (h : FVec Ideal S32768x2048 .f32) (w : FVec Ideal S2048x256 .f32) : FVec Ideal S32768x256 .f32 :=
  Host.dotGeneral dot_S32768x2048_S2048x256_S32768x256_1_0_0_1_n_n none h w

/-- A projection at row `r` and unit `f`. -/
theorem PROJ_at (h : FVec Ideal S32768x2048 .f32) (w : FVec Ideal S2048x256 .f32) (r : Fin 32768) (f : Fin 256) :
    PROJ h w (ix2 r f) = ∑ k : Fin 2048, h (ix2 r k) * w (ix2 k f) := by
  pointwise [PROJ]

/-- The hidden units of the shared expert. -/
def ACT (h : FVec Ideal S32768x2048 .f32) (wg wu : FVec Ideal S2048x256 .f32) : FVec Ideal S32768x256 .f32 :=
  mulf (mulf (PROJ h wg) (Host.divf (broadcastInDim S32768x256 ![] bcast_S_S32768x256 (constant S_ .f32 0x3F800000#32)) (addf (broadcastInDim S32768x256 ![] bcast_S_S32768x256 (constant S_ .f32 0x3F800000#32)) (Host.exp (Host.negf (PROJ h wg)))))) (PROJ h wu)

/-- A hidden unit at row `r`. -/
theorem ACT_at (h : FVec Ideal S32768x2048 .f32) (wg wu : FVec Ideal S2048x256 .f32) (r : Fin 32768) (f : Fin 256) :
    ACT h wg wu (ix2 r f) = SharedRow.act (fun k => h (ix2 r k)) (fun k => wg (ix2 k f)) (fun k => wu (ix2 k f)) := by
  pointwise [ACT]
  rw [PROJ_at, PROJ_at]
  rfl

/-- The routed rows taken out of their words. -/
def UNP (y : IVec S6x32768x1024 32) : FVec Ideal S6x32768x2048 .bf16 :=
  concatenate S6x32768x2048 2 [⟨S6x32768x1024, (shapeCast _ (extractStridedSlice S6x32768x1024x1 ![0, 0, 0, 0] (bitcastToFloat (F := Ideal) .bf16 (Host.bitcastConvertNarrow S6x32768x1024x2 16 y splits_S6x32768x1024_w32_S6x32768x1024x2_w16)) slices_S6x32768x1024x2_S6x32768x1024x1_0_0_0_0) shapeCasts_S6x32768x1024x1_S6x32768x1024)⟩, ⟨S6x32768x1024, (shapeCast _ (extractStridedSlice S6x32768x1024x1 ![0, 0, 0, 1] (bitcastToFloat (F := Ideal) .bf16 (Host.bitcastConvertNarrow S6x32768x1024x2 16 y splits_S6x32768x1024_w32_S6x32768x1024x2_w16)) slices_S6x32768x1024x2_S6x32768x1024x1_0_0_0_1) shapeCasts_S6x32768x1024x1_S6x32768x1024)⟩] concatenates_S6x32768x1024_S6x32768x1024_S6x32768x2048_d2

/-- The word in which a half lies. -/
theorem drop_at (k : Fin 6) (r : Fin 32768) (j : Fin 1024) (e : Fin 2) :
    (splits_S6x32768x1024_w32_S6x32768x1024x2_w16).drop (ix4 k r j e) = ix3 k r j := by
  funext a
  match a with
  | ⟨0, _⟩ => rfl
  | ⟨1, _⟩ => rfl
  | ⟨2, _⟩ => rfl

/-- The routed rows at row `r` of slot `k`. -/
theorem UNP_at (y : IVec S6x32768x1024 32) (k : Fin 6) (r : Fin 32768) (j : Fin 2048) :
    UNP y (ix3 k r j) = Words.half (fun i => y (ix3 k r i)) j := by
  pointwise [UNP]
  unfold Words.half
  split
  · exact congrArg (fun i => Ideal.ofBits .bf16 ((y i).extractLsb' 0 16)) (drop_at k r _ 0)
  · exact congrArg (fun i => Ideal.ofBits .bf16 ((y i).extractLsb' 16 16)) (drop_at k r _ 1)

/-- The routed rows summed in their weights. -/
def ROUTED (wt : FVec Ideal S32768x8 .f32) (u : FVec Ideal S6x32768x2048 .bf16) : FVec Ideal S32768x2048 .f32 :=
  Host.dotGeneral dot_S32768x6_S6x32768x2048_S32768x2048_1_0_n_2_0_1 none (extractStridedSlice S32768x6 ![0, 0] wt slices_S32768x8_S32768x6_0_0) u

/-- That sum at row `r` and column `j`. -/
theorem ROUTED_at (wt : FVec Ideal S32768x8 .f32) (u : FVec Ideal S6x32768x2048 .bf16) (r : Fin 32768) (j : Fin 2048) :
    ROUTED wt u (ix2 r j) = ∑ k : Fin 6, wt (ix2 r (k.castLE (by decide))) * u (ix3 k r j) := by
  pointwise [ROUTED]
  rfl

/-- The rows that are normalised. -/
def SUM (h : FVec Ideal S32768x2048 .f32) (y : IVec S6x32768x1024 32) (wt : FVec Ideal S32768x8 .f32) (wg wu : FVec Ideal S2048x256 .f32)
    (wd : FVec Ideal S256x2048 .f32) : FVec Ideal S32768x2048 .f32 :=
  addf (mulf (broadcastInDim S32768x2048 ![] bcast_S_S32768x2048 (constant S_ .f32 0x3FD744FD#32)) h)
    (addf (ROUTED wt (UNP y)) (Host.dotGeneral dot_S32768x256_S256x2048_S32768x2048_1_0_0_1_n_n none (ACT h wg wu) wd))

/-- Such a row at column `j`. -/
theorem SUM_at (h : FVec Ideal S32768x2048 .f32) (y : IVec S6x32768x1024 32) (wt : FVec Ideal S32768x8 .f32) (wg wu : FVec Ideal S2048x256 .f32)
    (wd : FVec Ideal S256x2048 .f32) (r : Fin 32768) (j : Fin 2048) :
    SUM h y wt wg wu wd (ix2 r j) = SharedRow.row (fun k => h (ix2 r k)) (fun k => wt (ix2 r (k.castLE (by decide)))) (fun k i => y (ix3 k r i))
      (fun f k => wg (ix2 k f)) (fun f k => wu (ix2 k f)) (fun f k => wd (ix2 f k)) j := by
  pointwise [SUM]
  rw [ROUTED_at]
  refine congrArg (Ideal.ofBits .f32 0x3FD744FD#32 * h (ix2 r j) + ·) (congrArg₂ (· + ·) (Finset.sum_congr rfl fun k _ => ?_) (Finset.sum_congr rfl fun f _ => ?_))
  · rw [UNP_at]
  · rw [ACT_at]

/-- The reference's first result as a function of its arguments. -/
def REF (h : FVec Ideal S32768x2048 .f32) (y : IVec S6x32768x1024 32) (wt : FVec Ideal S32768x8 .f32) (wg wu : FVec Ideal S2048x256 .f32)
    (wd : FVec Ideal S256x2048 .f32) (g b : FVec Ideal S2048 .f32) : FVec Ideal S32768x2048 .f32 := LNR (SUM h y wt wg wu wd) g b

/-- The reference at row `r` and column `j`. -/
theorem REF_at (h : FVec Ideal S32768x2048 .f32) (y : IVec S6x32768x1024 32) (wt : FVec Ideal S32768x8 .f32) (wg wu : FVec Ideal S2048x256 .f32)
    (wd : FVec Ideal S256x2048 .f32) (g b : FVec Ideal S2048 .f32) (r : Fin 32768) (j : Fin 2048) :
    REF h y wt wg wu wd g b (ix2 r j) = Norm.ln (SharedRow.row (fun k => h (ix2 r k)) (fun k => wt (ix2 r (k.castLE (by decide)))) (fun k i => y (ix3 k r i))
      (fun f k => wg (ix2 k f)) (fun f k => wu (ix2 k f)) (fun f k => wd (ix2 f k))) (g (ix1 j)) (b (ix1 j)) j :=
  (LNR_at _ g b r j).trans (congrArg (fun f => Norm.ln f (g (ix1 j)) (b (ix1 j)) j) (funext fun k => SUM_at h y wt wg wu wd r k))

variable (m : (ℓ : Loc nD τ sig) → Buf (Elt Ideal) ℓ)

/-- The first result as the run of the reference names it. -/
theorem res0 (c : Dev nD) : res_main_v40 m c = REF (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  unfold res_main_v40
  rfl

/-- The second result as the run of the reference names it. -/
theorem res1 (c : Dev nD) : res_main_v41 m c = (truncf .bf16 (REF (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))) bitsLt_bf16_f32 : FVec Ideal S32768x2048 .bf16) := by
  unfold res_main_v41
  rfl

end Cert.Reference6Ideal.Value

namespace Cert.Kernel6Ideal.Value

open Cert.Kernel6Ideal Cert.Kernel6Ideal.Gen

/-- A word moved up by sixteen bits denotes its low half. -/
theorem low_at (u : BitVec 32) : Ideal.ofBits .f32 (IntOp.shli ArithUnit.vector u 16#32) = Ideal.ofBits .bf16 (u.extractLsb' 0 16) :=
  Words.low u

/-- A word with its low half masked off denotes its high half. -/
theorem high_at (u : BitVec 32) : Ideal.ofBits .f32 (IntOp.andi u 4294901760#32) = Ideal.ofBits .bf16 (u.extractLsb' 16 16) :=
  Words.high u

/-- The shared expert at row `r` and column `j` of its block. -/
theorem shared_at (x0 : FVec Ideal S256x2048 .f32) (x3 : FVec Ideal S2048x512 .bf16) (x4 : FVec Ideal S256x2048 .bf16) (r : Fin 256) (j : Fin 2048) :
    k0_pay3 (F := Ideal) x0 x3 x4 (ix2 r j) = ∑ f : Fin 256, SharedRow.act (fun k => x0 (ix2 r k)) (fun k => x3 (ix2 k (f.castLE (by decide))))
      (fun k => x3 (ix2 k ⟨256 + f.val, by omega⟩)) * x4 (ix2 f j) := by
  pointwise [k0_pay3]
  simp only [zero_sub]
  rfl

/-- The columns of a block less the row means. -/
def CENT (x : FVec Ideal S256x2048 .f32) : FVec Ideal S256x2048 .f32 :=
  subf x (broadcastTo S256x2048 (divf (shapeCast S256x1 (multiReduction .add [1] S256 x 0x00000000#32 reduces_S256x2048_S256 (.inl rfl) rfl) shapeCasts_S256_S256x1) (broadcast S256x1 (Scalar.ofBits .f32 0x45000000#32))) broadcasts_S256x1_S256x2048)

/-- That at row `r` and column `j`. -/
theorem CENT_at (x : FVec Ideal S256x2048 .f32) (r : Fin 256) (j : Fin 2048) : CENT x (ix2 r j) = x (ix2 r j) - Norm.mean fun k => x (ix2 r k) := by
  pointwise [CENT]
  rfl

/-- The low halves summed over the six slots. -/
def LO (w : FVec Ideal S256x8 .f32) (u : Fin 6 → IVec S1x256x1024 32) : FVec Ideal S256x1024 .f32 :=
  addf (addf (k0_pay15 w (k0_pay6 w (u 0)) (k0_pay8 (F := Ideal) (u 1)) k0_pay9 (u 2) (u 3))
    (mulf (broadcastTo S256x1024 (extractStridedSlice S256x1 ![0, 4] w slices_S256x8_o0_4_S256x1) broadcasts_S256x1_S256x1024)
      (bitcastToFloat .f32 (shli (k0_pay17 (F := Ideal) (u 4)) k0_pay18))))
    (mulf (broadcastTo S256x1024 (extractStridedSlice S256x1 ![0, 5] w slices_S256x8_o0_5_S256x1) broadcasts_S256x1_S256x1024)
      (bitcastToFloat .f32 (shli (shapeCast S256x1024 (u 5) shapeCasts_S1x256x1024_S256x1024) (broadcast S256x1024 16#32))))

/-- The high halves summed over the six slots. -/
def HI (w : FVec Ideal S256x8 .f32) (u : Fin 6 → IVec S1x256x1024 32) : FVec Ideal S256x1024 .f32 :=
  addf (addf (k0_pay16 w (k0_pay7 w (u 0)) (k0_pay8 (F := Ideal) (u 1)) (u 2) (u 3))
    (mulf (broadcastTo S256x1024 (extractStridedSlice S256x1 ![0, 4] w slices_S256x8_o0_4_S256x1) broadcasts_S256x1_S256x1024)
      (bitcastToFloat .f32 (andi (k0_pay17 (F := Ideal) (u 4)) (broadcast S256x1024 4294901760#32)))))
    (mulf (broadcastTo S256x1024 (extractStridedSlice S256x1 ![0, 5] w slices_S256x8_o0_5_S256x1) broadcasts_S256x1_S256x1024)
      (bitcastToFloat .f32 (andi (shapeCast S256x1024 (u 5) shapeCasts_S1x256x1024_S256x1024) (broadcast S256x1024 4294901760#32))))

/-- The low halves' sum at row `r` and word `j`. -/
theorem LO_at (w : FVec Ideal S256x8 .f32) (u : Fin 6 → IVec S1x256x1024 32) (r : Fin 256) (j : Fin 1024) :
    LO w u (ix2 r j) = ∑ k : Fin 6, w (ix2 r (k.castLE (by decide))) * Ideal.ofBits .bf16 ((u k (ix3 0 r j)).extractLsb' 0 16) := by
  pointwise [LO, k0_pay4, k0_pay5, k0_pay6, k0_pay15, k0_pay8, k0_pay9, k0_pay10, k0_pay11, k0_pay12, k0_pay13, k0_pay14, k0_pay17, k0_pay18]
  simp only [low_at, Fin.sum_univ_six]
  rfl

/-- The high halves' sum at row `r` and word `j`. -/
theorem HI_at (w : FVec Ideal S256x8 .f32) (u : Fin 6 → IVec S1x256x1024 32) (r : Fin 256) (j : Fin 1024) :
    HI w u (ix2 r j) = ∑ k : Fin 6, w (ix2 r (k.castLE (by decide))) * Ideal.ofBits .bf16 ((u k (ix3 0 r j)).extractLsb' 16 16) := by
  pointwise [HI, k0_pay4, k0_pay5, k0_pay7, k0_pay16, k0_pay8, k0_pay10, k0_pay11, k0_pay12, k0_pay13, k0_pay14, k0_pay17]
  simp only [high_at, Fin.sum_univ_six]
  rfl

/-- The rows of a block that are normalised. -/
def ROWS (x0 : FVec Ideal S256x2048 .f32) (w : FVec Ideal S256x8 .f32) (u : Fin 6 → IVec S1x256x1024 32) (s : FVec Ideal S256x2048 .f32) :
    FVec Ideal S256x2048 .f32 :=
  addf (mulf (broadcast S256x2048 (Scalar.ofBits .f32 0x3FD744FD#32)) x0)
    (addf (concatenate S256x2048 1 [⟨S256x1024, LO w u⟩, ⟨S256x1024, HI w u⟩] concatenates_S256x1024_S256x1024_S256x2048_d1) s)

/-- Such a row at column `j`. -/
theorem ROWS_at (x0 : FVec Ideal S256x2048 .f32) (w : FVec Ideal S256x8 .f32) (u : Fin 6 → IVec S1x256x1024 32) (x3 : FVec Ideal S2048x512 .bf16)
    (x4 : FVec Ideal S256x2048 .bf16) (r : Fin 256) (j : Fin 2048) :
    ROWS x0 w u (k0_pay3 (F := Ideal) x0 x3 x4) (ix2 r j)
    = SharedRow.row (fun k => x0 (ix2 r k)) (fun k => w (ix2 r (k.castLE (by decide)))) (fun k i => u k (ix3 0 r i))
        (fun f k => x3 (ix2 k (f.castLE (by decide)))) (fun f k => x3 (ix2 k ⟨256 + f.val, by omega⟩)) (fun f k => x4 (ix2 f k)) j := by
  pointwise [ROWS]
  rw [shared_at]
  unfold SharedRow.row Words.half
  by_cases hj : j.val < 1024
  · simp only [dif_pos hj, LO_at]
  · simp only [dif_neg hj, HI_at]

/-- The centred block is the payload the norm reads. -/
theorem cent_eq (x0 s : FVec Ideal S256x2048 .f32) (w : FVec Ideal S256x8 .f32) (u : Fin 6 → IVec S1x256x1024 32) :
    k0_pay21 (F := Ideal) s w (k0_pay15 w (k0_pay6 w (u 0)) (k0_pay8 (F := Ideal) (u 1)) k0_pay9 (u 2) (u 3))
      (k0_pay16 w (k0_pay7 w (u 0)) (k0_pay8 (F := Ideal) (u 1)) (u 2) (u 3)) (k0_pay17 (F := Ideal) (u 4)) k0_pay18 (u 5) x0
    = CENT (ROWS x0 w u s) := rfl

/-- The norm at row `r` and column `j`. -/
theorem norm_at (g b : FVec Ideal S1x2048 .f32) (x y : FVec Ideal S256x2048 .f32) (r : Fin 256) (j : Fin 2048) :
    k0_pay1 (F := Ideal) (k0_pay19 g) (k0_pay20 b) x y (ix2 r j)
    = x (ix2 r j) * Ideal.rsqrt ((Norm.mean fun k => y (ix2 r k)) + Ideal.ofBits .f32 0x3727C5AC#32) * g (ix2 0 j) + b (ix2 0 j) := by
  pointwise [k0_pay1, k0_pay19, k0_pay20]
  rfl

/-- The body's stored block from the blocks it loads. -/
def PAY (x0 : FVec Ideal S256x2048 .f32) (w : FVec Ideal S256x8 .f32) (u : Fin 6 → IVec S1x256x1024 32) (x3 : FVec Ideal S2048x512 .bf16)
    (x4 : FVec Ideal S256x2048 .bf16) (g b : FVec Ideal S1x2048 .f32) : FVec Ideal S256x2048 .f32 :=
  k0_pay1 (F := Ideal) (k0_pay19 g) (k0_pay20 b) (CENT (ROWS x0 w u (k0_pay3 x0 x3 x4)))
    (mulf (CENT (ROWS x0 w u (k0_pay3 x0 x3 x4))) (CENT (ROWS x0 w u (k0_pay3 x0 x3 x4))))

/-- The stored block at row `r` and column `j`. -/
theorem PAY_at (x0 : FVec Ideal S256x2048 .f32) (w : FVec Ideal S256x8 .f32) (u : Fin 6 → IVec S1x256x1024 32) (x3 : FVec Ideal S2048x512 .bf16)
    (x4 : FVec Ideal S256x2048 .bf16) (g b : FVec Ideal S1x2048 .f32) (r : Fin 256) (j : Fin 2048) :
    PAY x0 w u x3 x4 g b (ix2 r j)
    = Norm.ln (SharedRow.row (fun k => x0 (ix2 r k)) (fun k => w (ix2 r (k.castLE (by decide)))) (fun k i => u k (ix3 0 r i))
        (fun f k => x3 (ix2 k (f.castLE (by decide)))) (fun f k => x3 (ix2 k ⟨256 + f.val, by omega⟩)) (fun f k => x4 (ix2 f k)))
        (g (ix2 0 j)) (b (ix2 0 j)) j := by
  have e : ∀ k : Fin 2048, CENT (ROWS x0 w u (k0_pay3 x0 x3 x4)) (ix2 r k) = _ := fun k =>
    (CENT_at _ r k).trans (congrArg (fun f : Fin 2048 → EReal => f k - Norm.mean f) (funext fun i => ROWS_at x0 w u x3 x4 r i))
  refine (norm_at g b _ _ r j).trans ?_
  have q : (fun k => mulf (CENT (ROWS x0 w u (k0_pay3 x0 x3 x4))) (CENT (ROWS x0 w u (k0_pay3 x0 x3 x4))) (ix2 r k)) = _ :=
    funext fun k => congrArg₂ (· * ·) (e k) (e k)
  rw [q, e]
  rfl

/-- The one store of a body covers its window: the window holds what is stored. -/
theorem canon_one {e : EltTy} (p : S256x2048.Idx → Elt Ideal e) (y0 : Fin 256) (y1 : Fin 2048) :
    View.canon (Val := Elt Ideal) [⟨r0_0, p⟩] (ix2 y0 y1) = p (ix2 y0 y1) := by
  frame_out

/-- The six slots' blocks as the body loads them. -/
def slots (x1 : IVec S6x256x1024 32) : Fin 6 → IVec S1x256x1024 32 := fun k =>
  match k with
  | 0 => View.ld (Val := Elt Ideal) (e' := .i32) x1 r0_3
  | 1 => View.ld (Val := Elt Ideal) (e' := .i32) x1 r0_4
  | 2 => View.ld (Val := Elt Ideal) (e' := .i32) x1 r0_5
  | 3 => View.ld (Val := Elt Ideal) (e' := .i32) x1 r0_6
  | 4 => View.ld (Val := Elt Ideal) (e' := .i32) x1 r0_7
  | 5 => View.ld (Val := Elt Ideal) (e' := .i32) x1 r0_8

/-- Slot `k` at row `r` and word `j`. -/
theorem slots_at (x1 : IVec S6x256x1024 32) (k : Fin 6) (r : Fin 256) (j : Fin 1024) : slots x1 k (ix3 0 r j) = x1 (ix3 k r j) := by
  fin_cases k
  · change View.ld (Val := Elt Ideal) (e' := .i32) x1 r0_3 (ix3 0 r j) = _
    pointwise []
  · change View.ld (Val := Elt Ideal) (e' := .i32) x1 r0_4 (ix3 0 r j) = _
    pointwise []
  · change View.ld (Val := Elt Ideal) (e' := .i32) x1 r0_5 (ix3 0 r j) = _
    pointwise []
  · change View.ld (Val := Elt Ideal) (e' := .i32) x1 r0_6 (ix3 0 r j) = _
    pointwise []
  · change View.ld (Val := Elt Ideal) (e' := .i32) x1 r0_7 (ix3 0 r j) = _
    pointwise []
  · change View.ld (Val := Elt Ideal) (e' := .i32) x1 r0_8 (ix3 0 r j) = _
    pointwise []

section Loads

variable (x0 : FVec Ideal S256x2048 .f32) (x1 : IVec S6x256x1024 32) (x2 : FVec Ideal S256x8 .f32) (x3 : FVec Ideal S2048x512 .bf16)
  (x4 : FVec Ideal S256x2048 .bf16) (x5 x6 : FVec Ideal S1x2048 .f32)

/-- A window's whole block is loaded as it is. -/
theorem ld_rows {e : EltTy} (x : S256x2048.Idx → Elt Ideal e) : View.ld (Val := Elt Ideal) x r0_0 = x :=
  View.ld_unit_zero (by decide) _ x

/-- The two projections' weights are loaded as they are. -/
theorem ld_gu {e : EltTy} (x : S2048x512.Idx → Elt Ideal e) : View.ld (Val := Elt Ideal) x r0_1 = x :=
  View.ld_unit_zero (by decide) _ x

/-- The weights of the routed rows are loaded as they are. -/
theorem ld_wt {e : EltTy} (x : S256x8.Idx → Elt Ideal e) : View.ld (Val := Elt Ideal) x r0_2 = x :=
  View.ld_unit_zero (by decide) _ x

/-- The scale and the shift are loaded as they are. -/
theorem ld_row {e : EltTy} (x : S1x2048.Idx → Elt Ideal e) : View.ld (Val := Elt Ideal) x r0_9 = x :=
  View.ld_unit_zero (by decide) _ x

/-- The centred block of the named values is that of the blocks loaded. -/
theorem pay31_eq : k0_pay31 (F := Ideal) x0 x1 x2 x3 x4 x5 x6 = CENT (ROWS x0 x2 (slots x1) (k0_pay3 x0 x3 x4)) := by
  unfold k0_pay31 k0_pay28 k0_pay27 k0_pay26 k0_pay25 k0_pay24 k0_pay23
  rw [ld_rows, ld_rows, ld_gu, ld_wt]
  exact cent_eq x0 (k0_pay3 x0 x3 x4) x2 (slots x1)

/-- The squares of the named values. -/
theorem pay32_eq : k0_pay32 (F := Ideal) x0 x1 x2 x3 x4 x5 x6
    = mulf (k0_pay31 (F := Ideal) x0 x1 x2 x3 x4 x5 x6) (k0_pay31 (F := Ideal) x0 x1 x2 x3 x4 x5 x6) := rfl

/-- What the body leaves in the first result's window, at row `y0` and column `y1`. -/
theorem out7_at (y0 : Fin 256) (y1 : Fin 2048) :
    out0_7 (F := Ideal) x0 x1 x2 x3 x4 x5 x6 (ix2 y0 y1) = PAY x0 x2 (slots x1) x3 x4 x5 x6 (ix2 y0 y1) := by
  unfold out0_7
  rw [canon_one, pay32_eq, pay31_eq]
  unfold k0_pay29 k0_pay30
  rw [ld_row, ld_row]
  rfl

/-- What the body leaves in the second result's window: the same numbers. -/
theorem out8_at (y0 : Fin 256) (y1 : Fin 2048) :
    @Eq EReal (out0_8 (F := Ideal) x0 x1 x2 x3 x4 x5 x6 (ix2 y0 y1)) (PAY x0 x2 (slots x1) x3 x4 x5 x6 (ix2 y0 y1)) := by
  unfold out0_8
  rw [canon_one, pay32_eq, pay31_eq]
  unfold k0_pay29 k0_pay30
  rw [ld_row, ld_row]
  rfl

end Loads

variable (m : (ℓ : Loc nD τ sig) → Buf (Elt Ideal) ℓ)

/-- The block every window shows at grid point `t`: row block `t` of the rows, the whole of the weights. -/
theorem idx : ∀ t : Fin cfg0.N, win0_0.index t = ![t.val, 0] ∧ win0_1.index t = ![0, t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- The two projections' weights side by side, as the kernel is given them. -/
theorem V_gu (c : Dev nD) : @Eq (FVec Ideal S2048x512 .bf16) (V m c main_v1)
    (truncf .bf16 (concatenate S2048x512 1 [⟨S2048x256, (m ((c : Thread nD τ).loc main_arg3) : FVec Ideal S2048x256 .f32)⟩, ⟨S2048x256, (m ((c : Thread nD τ).loc main_arg4) : FVec Ideal S2048x256 .f32)⟩] concatenates_S2048x256_S2048x256_S2048x512_d1) bitsLt_bf16_f32) := by
  entry_read
  rfl

/-- The last projection's weights as the kernel is given them. -/
theorem V_d (c : Dev nD) : @Eq (FVec Ideal S256x2048 .bf16) (V m c main_v2) (truncf .bf16 (m ((c : Thread nD τ).loc main_arg5) : FVec Ideal S256x2048 .f32) bitsLt_bf16_f32) := by
  entry_read
  rfl

/-- The scale as the kernel is given it: the argument as a row. -/
theorem V_g (c : Dev nD) : @Eq (FVec Ideal S1x2048 .f32) (V m c main_v3) (shapeCast S1x2048 (m ((c : Thread nD τ).loc main_arg6) : FVec Ideal S2048 .f32) shapeCasts_S2048_S1x2048) := by
  entry_read
  rfl

/-- The shift as the kernel is given it: the argument as a row. -/
theorem V_b (c : Dev nD) : @Eq (FVec Ideal S1x2048 .f32) (V m c main_v4) (shapeCast S1x2048 (m ((c : Thread nD τ).loc main_arg7) : FVec Ideal S2048 .f32) shapeCasts_S2048_S1x2048) := by
  entry_read
  rfl

/-- The left half of the weights side by side. -/
theorem gate_at (a b : FVec Ideal S2048x256 .f32) (k : Fin 2048) (f : Fin 256) :
    @Eq EReal ((truncf .bf16 (concatenate S2048x512 1 [⟨S2048x256, a⟩, ⟨S2048x256, b⟩] concatenates_S2048x256_S2048x256_S2048x512_d1) bitsLt_bf16_f32 : FVec Ideal S2048x512 .bf16)
      (ix2 k (f.castLE (by decide)))) (a (ix2 k f)) := by
  pointwise []
  exact dif_pos f.isLt

/-- The right half of the weights side by side. -/
theorem up_at (a b : FVec Ideal S2048x256 .f32) (k : Fin 2048) (f : Fin 256) :
    @Eq EReal ((truncf .bf16 (concatenate S2048x512 1 [⟨S2048x256, a⟩, ⟨S2048x256, b⟩] concatenates_S2048x256_S2048x256_S2048x512_d1) bitsLt_bf16_f32 : FVec Ideal S2048x512 .bf16)
      (ix2 k ⟨256 + f.val, by omega⟩)) (b (ix2 k f)) := by
  pointwise []

/-- The reference's rows of the kernel's own arguments. -/
abbrev RES (c : Dev nD) : FVec Ideal S32768x2048 .f32 :=
  Cert.Reference6Ideal.Value.REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What the body stores at row `y0` and column `y1` of point `t` is the reference at the array index where the block's index sits. -/
theorem point (c : Dev nD) (t : Fin cfg0.N) (y0 : Fin 256) (y1 : Fin 2048) (hr : t.val * 256 + y0.val < 32768) :
    PAY (iblk m c 0 t) (iblk m c 2 t) (slots (iblk m c 1 t)) (iblk m c 3 t) (iblk m c 4 t) (iblk m c 5 t) (iblk m c 6 t) (ix2 y0 y1)
    = RES m c (ix2 (⟨t.val * 256 + y0.val, hr⟩ : Fin 32768) y1) := by
  refine (PAY_at _ _ _ _ _ _ _ y0 y1).trans (Eq.trans ?_ (Cert.Reference6Ideal.Value.REF_at _ _ _ _ _ _ _ _ _ _).symm)
  have ex : ∀ k : Fin 2048, @Eq EReal ((iblk m c 0 t : FVec Ideal S256x2048 .f32) (ix2 y0 k)) ((m ((c : Thread nD τ).loc main_arg0) : FVec Ideal S32768x2048 .f32) (ix2 ⟨t.val * 256 + y0.val, hr⟩ k)) := fun k => by
    blk_ext [iblk, V, idx t]
  have eu : ∀ (k : Fin 6) (i : Fin 1024), @Eq (BitVec 32) (slots (iblk m c 1 t) k (ix3 0 y0 i)) ((m ((c : Thread nD τ).loc main_arg1) : IVec S6x32768x1024 32) (ix3 k ⟨t.val * 256 + y0.val, hr⟩ i)) := fun k i => by
    refine (slots_at _ k y0 i).trans ?_
    blk_ext [iblk, V, idx t]
  have ew : ∀ k : Fin 8, @Eq EReal ((iblk m c 2 t : FVec Ideal S256x8 .f32) (ix2 y0 k)) ((m ((c : Thread nD τ).loc main_arg2) : FVec Ideal S32768x8 .f32) (ix2 ⟨t.val * 256 + y0.val, hr⟩ k)) := fun k => by
    blk_ext [iblk, V, idx t]
  have es : ∀ (k : Fin 2048) (f : Fin 512), @Eq EReal ((iblk m c 3 t : FVec Ideal S2048x512 .bf16) (ix2 k f)) ((V m c main_v1 : FVec Ideal S2048x512 .bf16) (ix2 k f)) := fun k f => by
    blk_ext [iblk, idx t]
  have ed : ∀ (f : Fin 256) (k : Fin 2048), @Eq EReal ((iblk m c 4 t : FVec Ideal S256x2048 .bf16) (ix2 f k)) ((m ((c : Thread nD τ).loc main_arg5) : FVec Ideal S256x2048 .f32) (ix2 f k)) := fun f k => by
    refine Eq.trans ?_ (congrFun (V_d m c) (ix2 f k))
    blk_ext [iblk, idx t]
  have eg : @Eq EReal ((iblk m c 5 t : FVec Ideal S1x2048 .f32) (ix2 0 y1)) ((m ((c : Thread nD τ).loc main_arg6) : FVec Ideal S2048 .f32) (ix1 y1)) := by
    refine Eq.trans ?_ ((congrFun (V_g m c) (ix2 0 y1)).trans (Cert.Kernel4Ideal.Value.row_at _ y1))
    blk_ext [iblk, idx t]
  have eb : @Eq EReal ((iblk m c 6 t : FVec Ideal S1x2048 .f32) (ix2 0 y1)) ((m ((c : Thread nD τ).loc main_arg7) : FVec Ideal S2048 .f32) (ix1 y1)) := by
    refine Eq.trans ?_ ((congrFun (V_b m c) (ix2 0 y1)).trans (Cert.Kernel4Ideal.Value.row_at _ y1))
    blk_ext [iblk, idx t]
  have e3 : ∀ (f : Fin 256) (k : Fin 2048), @Eq EReal ((iblk m c 3 t : FVec Ideal S2048x512 .bf16) (ix2 k (f.castLE (by decide)))) ((m ((c : Thread nD τ).loc main_arg3) : FVec Ideal S2048x256 .f32) (ix2 k f)) := fun f k =>
    (es k _).trans ((congrFun (V_gu m c) _).trans (gate_at _ _ k f))
  have e4 : ∀ (f : Fin 256) (k : Fin 2048), @Eq EReal ((iblk m c 3 t : FVec Ideal S2048x512 .bf16) (ix2 k ⟨256 + f.val, by omega⟩)) ((m ((c : Thread nD τ).loc main_arg4) : FVec Ideal S2048x256 .f32) (ix2 k f)) := fun f k =>
    (es k _).trans ((congrFun (V_gu m c) _).trans (up_at _ _ k f))
  refine (congrArg₂ (fun g b => Norm.ln _ g b y1) eg eb).trans (congrArg (fun f => Norm.ln f _ _ y1) ?_)
  rw [show (fun k => (iblk m c 0 t : FVec Ideal S256x2048 .f32) (ix2 y0 k)) = _ from funext ex,
    show (fun k : Fin 6 => (iblk m c 2 t : FVec Ideal S256x8 .f32) (ix2 y0 (k.castLE (by decide)))) = _ from funext fun k => ew _,
    show (fun (k : Fin 6) (i : Fin 1024) => slots (iblk m c 1 t) k (ix3 0 y0 i)) = _ from funext fun k => funext fun i => eu k i,
    show (fun (f : Fin 256) (k : Fin 2048) => (iblk m c 3 t : FVec Ideal S2048x512 .bf16) (ix2 k (f.castLE (by decide)))) = _ from funext fun f => funext fun k => e3 f k,
    show (fun (f : Fin 256) (k : Fin 2048) => (iblk m c 3 t : FVec Ideal S2048x512 .bf16) (ix2 k ⟨256 + f.val, by omega⟩)) = _ from funext fun f => funext fun k => e4 f k,
    show (fun (f : Fin 256) (k : Fin 2048) => (iblk m c 4 t : FVec Ideal S256x2048 .bf16) (ix2 f k)) = _ from funext fun f => funext fun k => ed f k]

/-- The first result array is the reference's. -/
theorem final7 (c : Dev nD) : (dats m 0 c).arrAt 7 (cfgs 0).N = RES m c := by
  refine (dats m 0 c).arrAt_eq_of_covers 7 _ (by decide +kernel) fun t _ y => ?_
  blk_simp
  rw [after0_7]
  idx_vars y
  have ht : t.val < 128 := t.isLt
  have hr : t.val * 256 + y0.val < 32768 := by omega
  have e : ((cfg0.win 7).blk t).view.emb (ix2 y0 y1) = ix2 (⟨t.val * 256 + y0.val, hr⟩ : Fin 32768) y1 := by
    blk_ext [idx t]
  rw [e]
  exact (out7_at _ _ _ _ _ _ _ y0 y1).trans (point m c t y0 y1 hr)

/-- The second result array is the reference's first one, rounded to half the width (nothing, in exact numbers). -/
theorem final8 (c : Dev nD) : (dats m 0 c).arrAt 8 (cfgs 0).N = (truncf .bf16 (RES m c) bitsLt_bf16_f32 : FVec Ideal S32768x2048 .bf16) := by
  refine (dats m 0 c).arrAt_eq_of_covers 8 _ (by decide +kernel) fun t _ y => ?_
  blk_simp
  rw [after0_8]
  idx_vars y
  have ht : t.val < 128 := t.isLt
  have hr : t.val * 256 + y0.val < 32768 := by omega
  have e : ((cfg0.win 8).blk t).view.emb (ix2 y0 y1) = ix2 (⟨t.val * 256 + y0.val, hr⟩ : Fin 32768) y1 := by
    blk_ext [idx t]
  rw [e]
  exact (out8_at _ _ _ _ _ _ _ y0 y1).trans (point m c t y0 y1 hr)

/-- The kernel's run: both results are named by the launch's arrays, the arguments are as they were. -/
theorem run_named (ρ : Dev nD → PrngReg) : θ_run defs (onTc (τ := τ) (main (F := Ideal))) ⟨m, fun _ => 0, ρ⟩ fun r => ∀ c : Dev nD,
      r.2.mem ((c : Thread nD τ).loc main_v5_0) = (dats m 0 c).arrAt 7 cfg0.N
      ∧ r.2.mem ((c : Thread nD τ).loc main_v5_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Kernel6Ideal.Value

namespace Cert.Proof.SharedLn

/-- At `Ideal` the shared expert with the second norm and its reference end with equal results whenever their arguments agree. -/
theorem algebraic : Cert.algebraic_Kernel6Ideal_Reference6Ideal := by
  intro m g m' g' _ hag
  refine ⟨_, _, Cert.Kernel6Ideal.Value.run_named m g, ?_⟩
  refine (θ_run Cert.Reference6Ideal.defs _ _).mono (fun _ h c => ⟨(h c).1.trans ?_, (h c).2.1.trans ?_, (h c).2.2⟩)
    (Cert.Reference6Ideal.Value.run m' g')
  · refine (Cert.Reference6Ideal.Value.res0 m' c).trans ?_
    rw [(hag c).1, (hag c).2.1, (hag c).2.2.1, (hag c).2.2.2.1, (hag c).2.2.2.2.1, (hag c).2.2.2.2.2.1, (hag c).2.2.2.2.2.2.1, (hag c).2.2.2.2.2.2.2]
    exact (Cert.Kernel6Ideal.Value.final7 m c).symm
  · refine (Cert.Reference6Ideal.Value.res1 m' c).trans ?_
    rw [(hag c).1, (hag c).2.1, (hag c).2.2.1, (hag c).2.2.2.1, (hag c).2.2.2.2.1, (hag c).2.2.2.2.2.1, (hag c).2.2.2.2.2.2.1, (hag c).2.2.2.2.2.2.2]
    exact (Cert.Kernel6Ideal.Value.final8 m c).symm

end Cert.Proof.SharedLn

end
-- ==== Proof.lean ====
/- The claims of `proofs.«01_k».proof.Defs`: for the forgetting attention, the input projection, the gated merge, the output projection with its norm and
   the shared expert with the second norm the frames of kernel, idealization and reference, the rewrites of the idealization, and the value claims proved in the modules
   imported last. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite_scores
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Reference6Ideal.Run
public import Idealize.ShloMosaic.Adequacy
public import Idealize.ShloMosaic.Init
public import Idealize.ShloMosaic.Lib.Quiescent
public import proofs.«01_k».proof.Proof.InProj
public import proofs.«01_k».proof.Proof.Merge
public import proofs.«01_k».proof.Proof.Fox
public import proofs.«01_k».proof.Proof.OutLn
public import proofs.«01_k».proof.Proof.SharedLn

@[expose] public section

noncomputable section

namespace Cert.Proof

open Idealize.ShloMosaic Idealize.SL.Sem Cert.Kernel

/-- The reference of the forgetting attention runs, leaves its arguments alone and has no semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference of the input projection runs, leaves its arguments alone and has no semaphores. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference of the gated merge runs, leaves its arguments alone and has no semaphores. -/
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference of the output projection with its norm runs, leaves its arguments alone and has no semaphores. -/
theorem frame_reference4 : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- The reference of the shared expert with the second norm runs, leaves its arguments alone and has no semaphores. -/
theorem frame_reference6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- The three constants named in the attention have the values the table gives them. -/
theorem preserves_attention : Cert.preserves_Kernel_KernelIdeal :=
  ⟨IdealRules.named_const.statement Cert.KernelIdeal.κ "scale_log2e" .f32 0x3E0293EE#32 (((11863283 / 134217728) * (Real.log 2)⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- Everything claimed of the calls. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Pre_finite_scores.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel6.Gen.frame m ρ,
    fun m ρ _ => Cert.Kernel6Ideal.Gen.frame m ρ,
    frame_reference6,
    preserves_attention,
    Fox.algebraic,
    trivial,
    InProj.algebraic,
    trivial,
    Merge.algebraic,
    trivial,
    OutLn.algebraic,
    trivial,
    SharedLn.algebraic⟩

end Cert.Proof

end
